-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x1024 : Shape := ⟨3, ![1, 256, 1024]⟩
abbrev S1024x1024 : Shape := ⟨2, ![1024, 1024]⟩
abbrev S1024x2048 : Shape := ⟨2, ![1024, 2048]⟩
abbrev S2x1024x256 : Shape := ⟨3, ![2, 1024, 256]⟩
abbrev S256x1024 : Shape := ⟨2, ![256, 1024]⟩
abbrev S8x32x1024 : Shape := ⟨3, ![8, 32, 1024]⟩
abbrev S32x1024 : Shape := ⟨2, ![32, 1024]⟩
abbrev S3 : Shape := ⟨1, ![3]⟩
abbrev S8 : Shape := ⟨1, ![8]⟩
abbrev S1 : Shape := ⟨1, ![1]⟩
abbrev S_ : Shape := ⟨0, ![]⟩
abbrev S1x1024x256 : Shape := ⟨3, ![1, 1024, 256]⟩
abbrev S1024x256 : Shape := ⟨2, ![1024, 256]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S1x32x1024 : Shape := ⟨3, ![1, 32, 1024]⟩

abbrev nBuf : Space → Nat
  | .hbm => 6
  | .vmem => 10
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1024x1024, .f32⟩
  | .hbm, ⟨3, _⟩ => ⟨S1024x2048, .f32⟩
  | .hbm, ⟨4, _⟩ => ⟨S1024x2048, .f32⟩
  | .hbm, ⟨5, _⟩ => ⟨S1x256x1024, .f32⟩
  | .local _ .vmem, ⟨0, _⟩ => ⟨S1x256x1024, .f32⟩
  | .local _ .vmem, ⟨1, _⟩ => ⟨S1024x1024, .f32⟩
  | .local _ .vmem, ⟨2, _⟩ => ⟨S1024x1024, .f32⟩
  | .local _ .vmem, ⟨3, _⟩ => ⟨S1x256x1024, .f32⟩
  | .local _ .vmem, ⟨4, _⟩ => ⟨S2x1024x256, .f32⟩
  | .local _ .vmem, ⟨5, _⟩ => ⟨S256x1024, .f32⟩
  | .local _ .vmem, ⟨6, _⟩ => ⟨S256x1024, .bf16⟩
  | .local _ .vmem, ⟨7, _⟩ => ⟨S8x32x1024, .bf16⟩
  | .local _ .vmem, ⟨8, _⟩ => ⟨S32x1024, .bf16⟩
  | .local _ .vmem, ⟨9, _⟩ => ⟨S8x32x1024, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  (ofTc nBuf bufTy 1 39 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_off1 (d0 : Dev nD) : Fin 2 → Nat :=
  let c0_i32_4 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v4 : BitVec 32 := Scalar.muli v2 c256_i32
  ![0, v4.toNat]
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_10 : BitVec 32 := 0#32
  let v17 : BitVec 1 := Scalar.cmpi .ne v2 c0_i32_10
  let v18 : BitVec 32 := Scalar.extui v17
  let c0_i32_11 : BitVec 32 := 0#32
  let v19 : BitVec 1 := Scalar.cmpi .ne v18 c0_i32_11
  v19

def k0_dev1 : Nat :=
  let c0_i32_236 : BitVec 32 := 0#32
  let c0_i32_234 : BitVec 32 := 0#32
  let c1_i32_235 : BitVec 32 := 1#32
  let v470 : BitVec 32 := Scalar.muli c0_i32_234 c1_i32_235
  let v471 : BitVec 32 := Scalar.addi c0_i32_236 v470
  v471.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_12 : BitVec 32 := 1#32
  let v20 : BitVec 1 := Scalar.cmpi .ne v2 c1_i32_12
  let v21 : BitVec 32 := Scalar.extui v20
  let c0_i32_13 : BitVec 32 := 0#32
  let v22 : BitVec 1 := Scalar.cmpi .ne v21 c0_i32_13
  v22

def k0_dev2 : Nat :=
  let c0_i32_236 : BitVec 32 := 0#32
  let c1_i32_234 : BitVec 32 := 1#32
  let c1_i32_235 : BitVec 32 := 1#32
  let v470 : BitVec 32 := Scalar.muli c1_i32_234 c1_i32_235
  let v471 : BitVec 32 := Scalar.addi c0_i32_236 v470
  v471.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v23 : BitVec 1 := Scalar.cmpi .ne v2 c2_i32
  let v24 : BitVec 32 := Scalar.extui v23
  let c0_i32_14 : BitVec 32 := 0#32
  let v25 : BitVec 1 := Scalar.cmpi .ne v24 c0_i32_14
  v25

def k0_dev3 : Nat :=
  let c0_i32_236 : BitVec 32 := 0#32
  let c2_i32_234 : BitVec 32 := 2#32
  let c1_i32_235 : BitVec 32 := 1#32
  let v470 : BitVec 32 := Scalar.muli c2_i32_234 c1_i32_235
  let v471 : BitVec 32 := Scalar.addi c0_i32_236 v470
  v471.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v26 : BitVec 1 := Scalar.cmpi .ne v2 c3_i32
  let v27 : BitVec 32 := Scalar.extui v26
  let c0_i32_15 : BitVec 32 := 0#32
  let v28 : BitVec 1 := Scalar.cmpi .ne v27 c0_i32_15
  v28

def k0_dev4 : Nat :=
  let c0_i32_236 : BitVec 32 := 0#32
  let c3_i32_234 : BitVec 32 := 3#32
  let c1_i32_235 : BitVec 32 := 1#32
  let v470 : BitVec 32 := Scalar.muli c3_i32_234 c1_i32_235
  let v471 : BitVec 32 := Scalar.addi c0_i32_236 v470
  v471.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v29 : BitVec 1 := Scalar.cmpi .ne v2 c4_i32
  let v30 : BitVec 32 := Scalar.extui v29
  let c0_i32_16 : BitVec 32 := 0#32
  let v31 : BitVec 1 := Scalar.cmpi .ne v30 c0_i32_16
  v31

def k0_dev5 : Nat :=
  let c0_i32_236 : BitVec 32 := 0#32
  let c4_i32_234 : BitVec 32 := 4#32
  let c1_i32_235 : BitVec 32 := 1#32
  let v470 : BitVec 32 := Scalar.muli c4_i32_234 c1_i32_235
  let v471 : BitVec 32 := Scalar.addi c0_i32_236 v470
  v471.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v32 : BitVec 1 := Scalar.cmpi .ne v2 c5_i32
  let v33 : BitVec 32 := Scalar.extui v32
  let c0_i32_17 : BitVec 32 := 0#32
  let v34 : BitVec 1 := Scalar.cmpi .ne v33 c0_i32_17
  v34

def k0_dev6 : Nat :=
  let c0_i32_236 : BitVec 32 := 0#32
  let c5_i32_234 : BitVec 32 := 5#32
  let c1_i32_235 : BitVec 32 := 1#32
  let v470 : BitVec 32 := Scalar.muli c5_i32_234 c1_i32_235
  let v471 : BitVec 32 := Scalar.addi c0_i32_236 v470
  v471.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v35 : BitVec 1 := Scalar.cmpi .ne v2 c6_i32
  let v36 : BitVec 32 := Scalar.extui v35
  let c0_i32_18 : BitVec 32 := 0#32
  let v37 : BitVec 1 := Scalar.cmpi .ne v36 c0_i32_18
  v37

def k0_dev7 : Nat :=
  let c0_i32_236 : BitVec 32 := 0#32
  let c6_i32_234 : BitVec 32 := 6#32
  let c1_i32_235 : BitVec 32 := 1#32
  let v470 : BitVec 32 := Scalar.muli c6_i32_234 c1_i32_235
  let v471 : BitVec 32 := Scalar.addi c0_i32_236 v470
  v471.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v38 : BitVec 1 := Scalar.cmpi .ne v2 c7_i32
  let v39 : BitVec 32 := Scalar.extui v38
  let c0_i32_19 : BitVec 32 := 0#32
  let v40 : BitVec 1 := Scalar.cmpi .ne v39 c0_i32_19
  v40

def k0_dev8 : Nat :=
  let c0_i32_236 : BitVec 32 := 0#32
  let c7_i32_234 : BitVec 32 := 7#32
  let c1_i32_235 : BitVec 32 := 1#32
  let v470 : BitVec 32 := Scalar.muli c7_i32_234 c1_i32_235
  let v471 : BitVec 32 := Scalar.addi c0_i32_236 v470
  v471.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_89 : BitVec 32 := 0#32
  let v240 : BitVec 1 := Scalar.cmpi .ne v2 c0_i32_89
  let v241 : BitVec 32 := Scalar.extui v240
  let c0_i32_90 : BitVec 32 := 0#32
  let v242 : BitVec 1 := Scalar.cmpi .ne v241 c0_i32_90
  v242

def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_237 : BitVec 32 := 0#32
  let c0_i32_238 : BitVec 32 := 0#32
  ![v2.toNat, 0, 0]
def k0_dev9 : Nat :=
  let c0_i32_236 : BitVec 32 := 0#32
  let c0_i32_234 : BitVec 32 := 0#32
  let c1_i32_235 : BitVec 32 := 1#32
  let v470 : BitVec 32 := Scalar.muli c0_i32_234 c1_i32_235
  let v471 : BitVec 32 := Scalar.addi c0_i32_236 v470
  v471.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_95 : BitVec 32 := 1#32
  let v252 : BitVec 1 := Scalar.cmpi .ne v2 c1_i32_95
  let v253 : BitVec 32 := Scalar.extui v252
  let c0_i32_96 : BitVec 32 := 0#32
  let v254 : BitVec 1 := Scalar.cmpi .ne v253 c0_i32_96
  v254

def k0_off4 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_237 : BitVec 32 := 0#32
  let c0_i32_238 : BitVec 32 := 0#32
  ![v2.toNat, 0, 0]
def k0_dev10 : Nat :=
  let c0_i32_236 : BitVec 32 := 0#32
  let c1_i32_234 : BitVec 32 := 1#32
  let c1_i32_235 : BitVec 32 := 1#32
  let v470 : BitVec 32 := Scalar.muli c1_i32_234 c1_i32_235
  let v471 : BitVec 32 := Scalar.addi c0_i32_236 v470
  v471.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_101 : BitVec 32 := 2#32
  let v264 : BitVec 1 := Scalar.cmpi .ne v2 c2_i32_101
  let v265 : BitVec 32 := Scalar.extui v264
  let c0_i32_102 : BitVec 32 := 0#32
  let v266 : BitVec 1 := Scalar.cmpi .ne v265 c0_i32_102
  v266

def k0_off6 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off7 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_237 : BitVec 32 := 0#32
  let c0_i32_238 : BitVec 32 := 0#32
  ![v2.toNat, 0, 0]
def k0_dev11 : Nat :=
  let c0_i32_236 : BitVec 32 := 0#32
  let c2_i32_234 : BitVec 32 := 2#32
  let c1_i32_235 : BitVec 32 := 1#32
  let v470 : BitVec 32 := Scalar.muli c2_i32_234 c1_i32_235
  let v471 : BitVec 32 := Scalar.addi c0_i32_236 v470
  v471.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_107 : BitVec 32 := 3#32
  let v276 : BitVec 1 := Scalar.cmpi .ne v2 c3_i32_107
  let v277 : BitVec 32 := Scalar.extui v276
  let c0_i32_108 : BitVec 32 := 0#32
  let v278 : BitVec 1 := Scalar.cmpi .ne v277 c0_i32_108
  v278

def k0_off8 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off9 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_237 : BitVec 32 := 0#32
  let c0_i32_238 : BitVec 32 := 0#32
  ![v2.toNat, 0, 0]
def k0_dev12 : Nat :=
  let c0_i32_236 : BitVec 32 := 0#32
  let c3_i32_234 : BitVec 32 := 3#32
  let c1_i32_235 : BitVec 32 := 1#32
  let v470 : BitVec 32 := Scalar.muli c3_i32_234 c1_i32_235
  let v471 : BitVec 32 := Scalar.addi c0_i32_236 v470
  v471.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_113 : BitVec 32 := 4#32
  let v288 : BitVec 1 := Scalar.cmpi .ne v2 c4_i32_113
  let v289 : BitVec 32 := Scalar.extui v288
  let c0_i32_114 : BitVec 32 := 0#32
  let v290 : BitVec 1 := Scalar.cmpi .ne v289 c0_i32_114
  v290

def k0_off10 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off11 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_237 : BitVec 32 := 0#32
  let c0_i32_238 : BitVec 32 := 0#32
  ![v2.toNat, 0, 0]
def k0_dev13 : Nat :=
  let c0_i32_236 : BitVec 32 := 0#32
  let c4_i32_234 : BitVec 32 := 4#32
  let c1_i32_235 : BitVec 32 := 1#32
  let v470 : BitVec 32 := Scalar.muli c4_i32_234 c1_i32_235
  let v471 : BitVec 32 := Scalar.addi c0_i32_236 v470
  v471.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_119 : BitVec 32 := 5#32
  let v300 : BitVec 1 := Scalar.cmpi .ne v2 c5_i32_119
  let v301 : BitVec 32 := Scalar.extui v300
  let c0_i32_120 : BitVec 32 := 0#32
  let v302 : BitVec 1 := Scalar.cmpi .ne v301 c0_i32_120
  v302

def k0_off12 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off13 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_237 : BitVec 32 := 0#32
  let c0_i32_238 : BitVec 32 := 0#32
  ![v2.toNat, 0, 0]
def k0_dev14 : Nat :=
  let c0_i32_236 : BitVec 32 := 0#32
  let c5_i32_234 : BitVec 32 := 5#32
  let c1_i32_235 : BitVec 32 := 1#32
  let v470 : BitVec 32 := Scalar.muli c5_i32_234 c1_i32_235
  let v471 : BitVec 32 := Scalar.addi c0_i32_236 v470
  v471.toNat
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_125 : BitVec 32 := 6#32
  let v312 : BitVec 1 := Scalar.cmpi .ne v2 c6_i32_125
  let v313 : BitVec 32 := Scalar.extui v312
  let c0_i32_126 : BitVec 32 := 0#32
  let v314 : BitVec 1 := Scalar.cmpi .ne v313 c0_i32_126
  v314

def k0_off14 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off15 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_237 : BitVec 32 := 0#32
  let c0_i32_238 : BitVec 32 := 0#32
  ![v2.toNat, 0, 0]
def k0_dev15 : Nat :=
  let c0_i32_236 : BitVec 32 := 0#32
  let c6_i32_234 : BitVec 32 := 6#32
  let c1_i32_235 : BitVec 32 := 1#32
  let v470 : BitVec 32 := Scalar.muli c6_i32_234 c1_i32_235
  let v471 : BitVec 32 := Scalar.addi c0_i32_236 v470
  v471.toNat
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_131 : BitVec 32 := 7#32
  let v324 : BitVec 1 := Scalar.cmpi .ne v2 c7_i32_131
  let v325 : BitVec 32 := Scalar.extui v324
  let c0_i32_132 : BitVec 32 := 0#32
  let v326 : BitVec 1 := Scalar.cmpi .ne v325 c0_i32_132
  v326

def k0_off16 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off17 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_237 : BitVec 32 := 0#32
  let c0_i32_238 : BitVec 32 := 0#32
  ![v2.toNat, 0, 0]
def k0_dev16 : Nat :=
  let c0_i32_236 : BitVec 32 := 0#32
  let c7_i32_234 : BitVec 32 := 7#32
  let c1_i32_235 : BitVec 32 := 1#32
  let v470 : BitVec 32 := Scalar.muli c7_i32_234 c1_i32_235
  let v471 : BitVec 32 := Scalar.addi c0_i32_236 v470
  v471.toNat
def k0_off18 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v328 : Index := Scalar.indexCast v2
  let c0_134 : Index := 0#32
  let c0_135 : Index := 0#32
  ![v328.toNat, 0, 0]
def k0_off19 (d0 : Dev nD) : Fin 2 → Nat :=
  let c32_i32 : BitVec 32 := 32#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.muli c32_i32 v2
  let v356 : Index := Scalar.indexCast v3
  let c0_152 : Index := 0#32
  ![v356.toNat, 0]
def k0_cond25 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_177 : BitVec 32 := 0#32
  let v398 : BitVec 1 := Scalar.cmpi .ne v2 c0_i32_177
  let v399 : BitVec 32 := Scalar.extui v398
  let c0_i32_178 : BitVec 32 := 0#32
  let v400 : BitVec 1 := Scalar.cmpi .ne v399 c0_i32_178
  v400

def k0_off20 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off21 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_237 : BitVec 32 := 0#32
  let c0_i32_238 : BitVec 32 := 0#32
  ![v2.toNat, 0, 0]
def k0_dev17 : Nat :=
  let c0_i32_236 : BitVec 32 := 0#32
  let c0_i32_234 : BitVec 32 := 0#32
  let c1_i32_235 : BitVec 32 := 1#32
  let v470 : BitVec 32 := Scalar.muli c0_i32_234 c1_i32_235
  let v471 : BitVec 32 := Scalar.addi c0_i32_236 v470
  v471.toNat
def k0_cond26 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_179 : BitVec 32 := 1#32
  let v401 : BitVec 1 := Scalar.cmpi .ne v2 c1_i32_179
  let v402 : BitVec 32 := Scalar.extui v401
  let c0_i32_180 : BitVec 32 := 0#32
  let v403 : BitVec 1 := Scalar.cmpi .ne v402 c0_i32_180
  v403

def k0_off22 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off23 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_237 : BitVec 32 := 0#32
  let c0_i32_238 : BitVec 32 := 0#32
  ![v2.toNat, 0, 0]
def k0_dev18 : Nat :=
  let c0_i32_236 : BitVec 32 := 0#32
  let c1_i32_234 : BitVec 32 := 1#32
  let c1_i32_235 : BitVec 32 := 1#32
  let v470 : BitVec 32 := Scalar.muli c1_i32_234 c1_i32_235
  let v471 : BitVec 32 := Scalar.addi c0_i32_236 v470
  v471.toNat
def k0_cond27 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_181 : BitVec 32 := 2#32
  let v404 : BitVec 1 := Scalar.cmpi .ne v2 c2_i32_181
  let v405 : BitVec 32 := Scalar.extui v404
  let c0_i32_182 : BitVec 32 := 0#32
  let v406 : BitVec 1 := Scalar.cmpi .ne v405 c0_i32_182
  v406

def k0_off24 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off25 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_237 : BitVec 32 := 0#32
  let c0_i32_238 : BitVec 32 := 0#32
  ![v2.toNat, 0, 0]
def k0_dev19 : Nat :=
  let c0_i32_236 : BitVec 32 := 0#32
  let c2_i32_234 : BitVec 32 := 2#32
  let c1_i32_235 : BitVec 32 := 1#32
  let v470 : BitVec 32 := Scalar.muli c2_i32_234 c1_i32_235
  let v471 : BitVec 32 := Scalar.addi c0_i32_236 v470
  v471.toNat
def k0_cond28 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_183 : BitVec 32 := 3#32
  let v407 : BitVec 1 := Scalar.cmpi .ne v2 c3_i32_183
  let v408 : BitVec 32 := Scalar.extui v407
  let c0_i32_184 : BitVec 32 := 0#32
  let v409 : BitVec 1 := Scalar.cmpi .ne v408 c0_i32_184
  v409

def k0_off26 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off27 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_237 : BitVec 32 := 0#32
  let c0_i32_238 : BitVec 32 := 0#32
  ![v2.toNat, 0, 0]
def k0_dev20 : Nat :=
  let c0_i32_236 : BitVec 32 := 0#32
  let c3_i32_234 : BitVec 32 := 3#32
  let c1_i32_235 : BitVec 32 := 1#32
  let v470 : BitVec 32 := Scalar.muli c3_i32_234 c1_i32_235
  let v471 : BitVec 32 := Scalar.addi c0_i32_236 v470
  v471.toNat
def k0_cond29 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_185 : BitVec 32 := 4#32
  let v410 : BitVec 1 := Scalar.cmpi .ne v2 c4_i32_185
  let v411 : BitVec 32 := Scalar.extui v410
  let c0_i32_186 : BitVec 32 := 0#32
  let v412 : BitVec 1 := Scalar.cmpi .ne v411 c0_i32_186
  v412

def k0_off28 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off29 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_237 : BitVec 32 := 0#32
  let c0_i32_238 : BitVec 32 := 0#32
  ![v2.toNat, 0, 0]
def k0_dev21 : Nat :=
  let c0_i32_236 : BitVec 32 := 0#32
  let c4_i32_234 : BitVec 32 := 4#32
  let c1_i32_235 : BitVec 32 := 1#32
  let v470 : BitVec 32 := Scalar.muli c4_i32_234 c1_i32_235
  let v471 : BitVec 32 := Scalar.addi c0_i32_236 v470
  v471.toNat
def k0_cond30 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_187 : BitVec 32 := 5#32
  let v413 : BitVec 1 := Scalar.cmpi .ne v2 c5_i32_187
  let v414 : BitVec 32 := Scalar.extui v413
  let c0_i32_188 : BitVec 32 := 0#32
  let v415 : BitVec 1 := Scalar.cmpi .ne v414 c0_i32_188
  v415

def k0_off30 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off31 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_237 : BitVec 32 := 0#32
  let c0_i32_238 : BitVec 32 := 0#32
  ![v2.toNat, 0, 0]
def k0_dev22 : Nat :=
  let c0_i32_236 : BitVec 32 := 0#32
  let c5_i32_234 : BitVec 32 := 5#32
  let c1_i32_235 : BitVec 32 := 1#32
  let v470 : BitVec 32 := Scalar.muli c5_i32_234 c1_i32_235
  let v471 : BitVec 32 := Scalar.addi c0_i32_236 v470
  v471.toNat
def k0_cond31 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_189 : BitVec 32 := 6#32
  let v416 : BitVec 1 := Scalar.cmpi .ne v2 c6_i32_189
  let v417 : BitVec 32 := Scalar.extui v416
  let c0_i32_190 : BitVec 32 := 0#32
  let v418 : BitVec 1 := Scalar.cmpi .ne v417 c0_i32_190
  v418

def k0_off32 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off33 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_237 : BitVec 32 := 0#32
  let c0_i32_238 : BitVec 32 := 0#32
  ![v2.toNat, 0, 0]
def k0_dev23 : Nat :=
  let c0_i32_236 : BitVec 32 := 0#32
  let c6_i32_234 : BitVec 32 := 6#32
  let c1_i32_235 : BitVec 32 := 1#32
  let v470 : BitVec 32 := Scalar.muli c6_i32_234 c1_i32_235
  let v471 : BitVec 32 := Scalar.addi c0_i32_236 v470
  v471.toNat
def k0_cond32 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_191 : BitVec 32 := 7#32
  let v419 : BitVec 1 := Scalar.cmpi .ne v2 c7_i32_191
  let v420 : BitVec 32 := Scalar.extui v419
  let c0_i32_192 : BitVec 32 := 0#32
  let v421 : BitVec 1 := Scalar.cmpi .ne v420 c0_i32_192
  v421

def k0_off34 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off35 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_237 : BitVec 32 := 0#32
  let c0_i32_238 : BitVec 32 := 0#32
  ![v2.toNat, 0, 0]
def k0_dev24 : Nat :=
  let c0_i32_236 : BitVec 32 := 0#32
  let c7_i32_234 : BitVec 32 := 7#32
  let c1_i32_235 : BitVec 32 := 1#32
  let v470 : BitVec 32 := Scalar.muli c7_i32_234 c1_i32_235
  let v471 : BitVec 32 := Scalar.addi c0_i32_236 v470
  v471.toNat
def k0_cond41 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_217 : BitVec 32 := 0#32
  let v446 : BitVec 1 := Scalar.cmpi .ne v2 c0_i32_217
  let v447 : BitVec 32 := Scalar.extui v446
  let c0_i32_218 : BitVec 32 := 0#32
  let v448 : BitVec 1 := Scalar.cmpi .ne v447 c0_i32_218
  v448

def k0_off36 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_238 : BitVec 32 := 0#32
  let c0_i32_239 : BitVec 32 := 0#32
  ![v2.toNat, 0, 0]
def k0_cond42 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_219 : BitVec 32 := 1#32
  let v449 : BitVec 1 := Scalar.cmpi .ne v2 c1_i32_219
  let v450 : BitVec 32 := Scalar.extui v449
  let c0_i32_220 : BitVec 32 := 0#32
  let v451 : BitVec 1 := Scalar.cmpi .ne v450 c0_i32_220
  v451

def k0_off37 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_238 : BitVec 32 := 0#32
  let c0_i32_239 : BitVec 32 := 0#32
  ![v2.toNat, 0, 0]
def k0_cond43 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_221 : BitVec 32 := 2#32
  let v452 : BitVec 1 := Scalar.cmpi .ne v2 c2_i32_221
  let v453 : BitVec 32 := Scalar.extui v452
  let c0_i32_222 : BitVec 32 := 0#32
  let v454 : BitVec 1 := Scalar.cmpi .ne v453 c0_i32_222
  v454

def k0_off38 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_237 : BitVec 32 := 0#32
  let c0_i32_238 : BitVec 32 := 0#32
  ![v2.toNat, 0, 0]
def k0_cond44 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_223 : BitVec 32 := 3#32
  let v455 : BitVec 1 := Scalar.cmpi .ne v2 c3_i32_223
  let v456 : BitVec 32 := Scalar.extui v455
  let c0_i32_224 : BitVec 32 := 0#32
  let v457 : BitVec 1 := Scalar.cmpi .ne v456 c0_i32_224
  v457

def k0_off39 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_237 : BitVec 32 := 0#32
  let c0_i32_238 : BitVec 32 := 0#32
  ![v2.toNat, 0, 0]
def k0_cond45 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_225 : BitVec 32 := 4#32
  let v458 : BitVec 1 := Scalar.cmpi .ne v2 c4_i32_225
  let v459 : BitVec 32 := Scalar.extui v458
  let c0_i32_226 : BitVec 32 := 0#32
  let v460 : BitVec 1 := Scalar.cmpi .ne v459 c0_i32_226
  v460

def k0_off40 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_237 : BitVec 32 := 0#32
  let c0_i32_238 : BitVec 32 := 0#32
  ![v2.toNat, 0, 0]
def k0_cond46 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_227 : BitVec 32 := 5#32
  let v461 : BitVec 1 := Scalar.cmpi .ne v2 c5_i32_227
  let v462 : BitVec 32 := Scalar.extui v461
  let c0_i32_228 : BitVec 32 := 0#32
  let v463 : BitVec 1 := Scalar.cmpi .ne v462 c0_i32_228
  v463

def k0_off41 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_237 : BitVec 32 := 0#32
  let c0_i32_238 : BitVec 32 := 0#32
  ![v2.toNat, 0, 0]
def k0_cond47 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_229 : BitVec 32 := 6#32
  let v464 : BitVec 1 := Scalar.cmpi .ne v2 c6_i32_229
  let v465 : BitVec 32 := Scalar.extui v464
  let c0_i32_230 : BitVec 32 := 0#32
  let v466 : BitVec 1 := Scalar.cmpi .ne v465 c0_i32_230
  v466

def k0_off42 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_237 : BitVec 32 := 0#32
  let c0_i32_238 : BitVec 32 := 0#32
  ![v2.toNat, 0, 0]
def k0_cond48 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_231 : BitVec 32 := 7#32
  let v467 : BitVec 1 := Scalar.cmpi .ne v2 c7_i32_231
  let v468 : BitVec 32 := Scalar.extui v467
  let c0_i32_232 : BitVec 32 := 0#32
  let v469 : BitVec 1 := Scalar.cmpi .ne v468 c0_i32_232
  v469

def k0_off43 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_237 : BitVec 32 := 0#32
  let c0_i32_238 : BitVec 32 := 0#32
  ![v2.toNat, 0, 0]
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x256x1024 : Shape := ⟨3, ![1, 256, 1024]⟩
abbrev S1024x8192 : Shape := ⟨2, ![1024, 8192]⟩
abbrev S8192x1024 : Shape := ⟨2, ![8192, 1024]⟩
abbrev S1024x2048 : Shape := ⟨2, ![1024, 2048]⟩
abbrev S1x256x8192 : Shape := ⟨3, ![1, 256, 8192]⟩
abbrev S1x256x64x128 : Shape := ⟨4, ![1, 256, 64, 128]⟩
abbrev S1x256x2048 : Shape := ⟨3, ![1, 256, 2048]⟩
abbrev S1x256x16x128 : Shape := ⟨4, ![1, 256, 16, 128]⟩
abbrev S1x256x16x4x128 : Shape := ⟨5, ![1, 256, 16, 4, 128]⟩
abbrev S_ : Shape := ⟨0, ![]⟩
abbrev S1x64x256x1 : Shape := ⟨4, ![1, 64, 256, 1]⟩
abbrev S1x64x256x256 : Shape := ⟨4, ![1, 64, 256, 256]⟩
abbrev S1x64x256 : Shape := ⟨3, ![1, 64, 256]⟩
abbrev S1x256x64x1 : Shape := ⟨4, ![1, 256, 64, 1]⟩
abbrev S1x64x128x256 : Shape := ⟨4, ![1, 64, 128, 256]⟩

abbrev nBuf : Space → Nat
  | .hbm => 50
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1024x8192, .f32⟩
  | .hbm, ⟨2, _⟩ => ⟨S8192x1024, .f32⟩
  | .hbm, ⟨3, _⟩ => ⟨S1024x2048, .f32⟩
  | .hbm, ⟨4, _⟩ => ⟨S1024x2048, .f32⟩
  | .hbm, ⟨5, _⟩ => ⟨S1x256x8192, .f32⟩
  | .hbm, ⟨6, _⟩ => ⟨S1x256x64x128, .f32⟩
  | .hbm, ⟨7, _⟩ => ⟨S1x256x2048, .f32⟩
  | .hbm, ⟨8, _⟩ => ⟨S1x256x16x128, .f32⟩
  | .hbm, ⟨9, _⟩ => ⟨S1x256x2048, .f32⟩
  | .hbm, ⟨10, _⟩ => ⟨S1x256x16x128, .f32⟩
  | .hbm, ⟨11, _⟩ => ⟨S1x256x16x4x128, .f32⟩
  | .hbm, ⟨12, _⟩ => ⟨S1x256x64x128, .f32⟩
  | .hbm, ⟨13, _⟩ => ⟨S1x256x16x4x128, .f32⟩
  | .hbm, ⟨14, _⟩ => ⟨S1x256x64x128, .f32⟩
  | .hbm, ⟨15, _⟩ => ⟨S_, .f32⟩
  | .hbm, ⟨16, _⟩ => ⟨S1x256x64x128, .f32⟩
  | .hbm, ⟨17, _⟩ => ⟨S_, .f32⟩
  | .hbm, ⟨18, _⟩ => ⟨S1x64x256x1, .f32⟩
  | .hbm, ⟨19, _⟩ => ⟨S_, .f32⟩
  | .hbm, ⟨20, _⟩ => ⟨S1x64x256x1, .f32⟩
  | .hbm, ⟨21, _⟩ => ⟨S1x64x256x256, .f32⟩
  | .hbm, ⟨22, _⟩ => ⟨S_, .f32⟩
  | .hbm, ⟨23, _⟩ => ⟨S1x64x256x256, .f32⟩
  | .hbm, ⟨24, _⟩ => ⟨S1x64x256x256, .f32⟩
  | .hbm, ⟨25, _⟩ => ⟨S_, .f32⟩
  | .hbm, ⟨26, _⟩ => ⟨S1x64x256, .f32⟩
  | .hbm, ⟨27, _⟩ => ⟨S1x64x256x1, .f32⟩
  | .hbm, ⟨28, _⟩ => ⟨S1x64x256x1, .f32⟩
  | .hbm, ⟨29, _⟩ => ⟨S1x64x256x1, .f32⟩
  | .hbm, ⟨30, _⟩ => ⟨S1x64x256x1, .f32⟩
  | .hbm, ⟨31, _⟩ => ⟨S1x64x256x256, .f32⟩
  | .hbm, ⟨32, _⟩ => ⟨S1x64x256x256, .f32⟩
  | .hbm, ⟨33, _⟩ => ⟨S1x64x256x256, .f32⟩
  | .hbm, ⟨34, _⟩ => ⟨S1x64x256x1, .f32⟩
  | .hbm, ⟨35, _⟩ => ⟨S_, .f32⟩
  | .hbm, ⟨36, _⟩ => ⟨S1x64x256, .f32⟩
  | .hbm, ⟨37, _⟩ => ⟨S1x64x256x1, .f32⟩
  | .hbm, ⟨38, _⟩ => ⟨S1x64x256x1, .f32⟩
  | .hbm, ⟨39, _⟩ => ⟨S1x256x64x1, .f32⟩
  | .hbm, ⟨40, _⟩ => ⟨S1x256x64x128, .f32⟩
  | .hbm, ⟨41, _⟩ => ⟨S1x256x64x128, .f32⟩
  | .hbm, ⟨42, _⟩ => ⟨S1x64x128x256, .f32⟩
  | .hbm, ⟨43, _⟩ => ⟨S1x256x64x128, .f32⟩
  | .hbm, ⟨44, _⟩ => ⟨S1x256x64x128, .f32⟩
  | .hbm, ⟨45, _⟩ => ⟨S1x256x64x1, .f32⟩
  | .hbm, ⟨46, _⟩ => ⟨S1x256x64x128, .f32⟩
  | .hbm, ⟨47, _⟩ => ⟨S1x256x64x128, .f32⟩
  | .hbm, ⟨48, _⟩ => ⟨S1x256x8192, .f32⟩
  | .hbm, ⟨49, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Proof.Common.lean ====
/-
# The protocol of the fused attention and all-reduce: cells, contents, schedule, levels

Every device holds 35 DMA semaphores of its own besides the windows' staging cells, and the barrier semaphore.  They
are indexed here by `J`: `inl i` is load semaphore `i`, `inr (0, p)` the send semaphore of chunk `p`, `inr (1, j)` the
arrival semaphore of device `j`'s chunk, `inr (2, p)` the send semaphore of the broadcast to `p`, `inr (3, j)` the
arrival semaphore of device `j`'s broadcast.  Each has one round, and at most one duty in it; the barrier has one duty
for each other device.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.ValueIdxCore
public import Idealize.ShloMosaic.Lib.ShareLeaves

@[expose] public section

set_option maxRecDepth 16384

noncomputable section

namespace Cert.Fused

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

/-! ## The resource algebra: the pipeline library's copy and the protocol's, duties named by devices -/

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The cells -/

/-- The kernel's own DMA semaphores. -/
abbrev J : Type := Fin 3 ⊕ (Fin 4 × Fin 8)

set_option backward.proofsInPublic true in
/-- The number of a kernel's own DMA semaphore among the device's. -/
def jno : J → DmaSem sig
  | .inl i => ⟨4 + i.val, by have := i.isLt; show _ < 39; omega⟩
  | .inr (k, p) => ⟨7 + 8 * k.val + p.val, by have := k.isLt; have := p.isLt; show _ < 39; omega⟩

/-- The kernel's own semaphores. -/
abbrev osem (k : J) : SemLoc sig := .dma (jno k)

abbrev barS := (SemArray.scalar (sig.barrier 0 rfl) : Sems sig S_).sem

/-- What a semaphore is for. -/
inductive Use where
  | bar
  | own (k : J)
  | other
deriving DecidableEq

set_option backward.proofsInPublic true in
def useOf : SemLoc sig → Use
  | .reg _ => .bar
  | .dma q =>
    if q.val < 4 then .other
    else if h : q.val < 7 then .own (.inl ⟨q.val - 4, by omega⟩)
    else .own (.inr (⟨(q.val - 7) / 8, by have : q.val < 39 := q.isLt; omega⟩, ⟨(q.val - 7) % 8, Nat.mod_lt _ (by decide)⟩))

theorem useOf_osem (k : J) : useOf (osem k) = .own k := by revert k; decide
theorem useOf_bar : useOf (.reg barS) = .bar := rfl

abbrev cell (c : Dev nD) (k : J) : GSem nD τ sig := ((c : Thread nD τ), osem k)
abbrev barCell (c : Dev nD) : GSem nD τ sig := ((c : Thread nD τ), .reg barS)

/-! ## The rectangles -/

/-- Rows `32 p` to `32 p + 31` of a 256-row array. -/
def rowR (p : Fin 8) : Rect S256x1024 := Rect.unit (s := S256x1024) ![32 * p.val, 0] S32x1024.size (by
  revert p; decide)
/-- Slot `j` of a buffer of eight 32-row blocks. -/
def slotR (j : Fin 8) : Rect S8x32x1024 := Rect.unit (s := S8x32x1024) ![j.val, 0, 0] S1x32x1024.size (by
  revert j; decide)
/-- Half `i` of the key and value staging buffer. -/
def kvR (i : Fin 2) : Rect S2x1024x256 := Rect.unit (s := S2x1024x256) ![i.val, 0, 0] S1x1024x256.size (by
  revert i; decide)
/-- The 256 columns of the key or value weights that a device takes. -/
def colR (c : Dev nD) : Rect S1024x2048 := Rect.unit (s := S1024x2048) ![0, 256 * c.val] S1024x256.size (by
  revert c; decide)

/-! ## What the buffers hold -/

/-- The staged input, query weight and output weight blocks of a device. -/
def xstg (c : Dev nD) : Vec F S1x256x1024 .f32 :=
  (win0_0.blk (0 : Fin 1)).view.read (Elt F) ((s₀ m ρ).mem ((c : Thread nD τ).loc main_arg0))
def wqstg (c : Dev nD) : Vec F S1024x1024 .f32 :=
  (win0_1.blk (0 : Fin 1)).view.read (Elt F) ((s₀ m ρ).mem ((c : Thread nD τ).loc main_arg1))
def wostg (c : Dev nD) : Vec F S1024x1024 .f32 :=
  (win0_2.blk (0 : Fin 1)).view.read (Elt F) ((s₀ m ρ).mem ((c : Thread nD τ).loc main_arg2))

/-- The key columns (half 0) and the value columns (half 1) of the weights that device `c` takes. -/
def kvF (c : Dev nD) : Buf (Elt F) ((c : Thread nD τ).loc cc0_scratch0) := fun i : S2x1024x256.Idx =>
  if (i 0).val = 0 then
    (show S1024x2048.Idx → Elt F .f32 from m ((c : Thread nD τ).loc main_arg3))
      (ix2 (i 1 : Fin 1024) (⟨256 * c.val + (i 2).val, by
        have h : (i 2).val < 256 := (i 2).isLt
        have : c.val < 8 := c.isLt; omega⟩ : Fin 2048))
  else
    (show S1024x2048.Idx → Elt F .f32 from m ((c : Thread nD τ).loc main_arg4))
      (ix2 (i 1 : Fin 1024) (⟨256 * c.val + (i 2).val, by
        have h : (i 2).val < 256 := (i 2).isLt
        have : c.val < 8 := c.isLt; omega⟩ : Fin 2048))

/-- Half `i` of it, as a load reads it. -/
def kvV (c : Dev nD) (i : Fin 2) : Vec F S1x1024x256 .f32 := fun j => kvF m c ((kvR i).emb j)

/-- The attention block of the eight heads of a device, from its input, query weights and the two halves. -/
def attn (x : Vec F S1x256x1024 .f32) (wq : Vec F S1024x1024 .f32) (k v : Vec F S1x1024x256 .f32) :
    FVec F S256x1024 .bf16 :=
  let v43 := k0_pay1 x
  let v47 := k0_pay2 x wq
  let v61 := k0_pay3 v43 k
  let v65 := k0_pay4 v43 v
  k0_pay20 v47 v61 v65 (k0_pay5 v43 v47 k v) (k0_pay10 (k0_pay6 v43 v) (k0_pay8 v43 v47 k) (k0_pay9 v43 v47 k))
    (k0_pay11 v47 v61 v65) (k0_pay12 v47 v61 v65) (k0_pay16 (k0_pay13 v47) (k0_pay14 v61) (k0_pay15 v65))
    (k0_pay17 v47 v61 v65) (k0_pay18 v65) (k0_pay19 v47 v61)

/-- The attention block of device `c`. -/
def attnV (c : Dev nD) : FVec F S256x1024 .bf16 := attn (xstg m ρ c) (wqstg m ρ c) (kvV m c 0) (kvV m c 1)
/-- Its output weights, as the product takes them. -/
def woV (c : Dev nD) : FVec F S1024x1024 .bf16 := k0_pay21 (wostg m ρ c)

theorem slices_row (p : Fin 8) : Shape.Slices S256x1024 ![32 * p.val, 0] S32x1024 := by
  revert p; decide

/-- Rows `32 p …` of an attention block times the output weights. -/
def chunkP (a : FVec F S256x1024 .bf16) (w : FVec F S1024x1024 .bf16) (p : Fin 8) : FVec F S32x1024 .f32 :=
  matmul dot_S32x1024_S1024x1024_S32x1024_1_0_0_1_n_n none (extractStridedSlice S32x1024 ![32 * p.val, 0] a (slices_row p)) w
    (constant S32x1024 .f32 0x00000000#32)
/-- The chunk as it is stored … -/
def chunkF (a : FVec F S256x1024 .bf16) (w : FVec F S1024x1024 .bf16) (p : Fin 8) : FVec F S32x1024 .f32 :=
  shapeCast S32x1024 (chunkP a w p) shapeCasts_S32x1024_S32x1024
/-- … and rounded as it is sent. -/
def chunkB (a : FVec F S256x1024 .bf16) (w : FVec F S1024x1024 .bf16) (p : Fin 8) : FVec F S32x1024 .bf16 :=
  shapeCast S32x1024 (truncf .bf16 (chunkP a w p) bitsLt_bf16_f32) shapeCasts_S32x1024_S32x1024

/-- Row `i` of 256 is row `i % 32` of chunk `i / 32`. -/
def rowDiv (i : Fin 256) : Fin 8 := ⟨i.val / 32, by have := i.isLt; omega⟩
def rowMod (i : Fin 256) : Fin 32 := ⟨i.val % 32, Nat.mod_lt _ (by decide)⟩

/-- The partial product of device `c`, all its rows, … -/
def p32F (c : Dev nD) : Buf (Elt F) ((c : Thread nD τ).loc cc0_scratch1) := fun i : S256x1024.Idx =>
  chunkF (attnV m ρ c) (woV m ρ c) (rowDiv (i 0)) (ix2 (rowMod (i 0)) (i 1 : Fin 1024))
/-- … and its rounding. -/
def pbF (c : Dev nD) : Buf (Elt F) ((c : Thread nD τ).loc cc0_scratch2) := fun i : S256x1024.Idx =>
  chunkB (attnV m ρ c) (woV m ρ c) (rowDiv (i 0)) (ix2 (rowMod (i 0)) (i 1 : Fin 1024))

/-- The gathered chunks of device `c`: slot `j` the rounded chunk `c` of device `j`, its own slot zero. -/
def scF (c : Dev nD) : Buf (Elt F) ((c : Thread nD τ).loc cc0_scratch3) := fun i : S8x32x1024.Idx =>
  if (i 0).val = c.val then k0_pay47 (F := F) (ix3 (0 : Fin 1) (i 1 : Fin 32) (i 2 : Fin 1024))
  else chunkB (attnV m ρ (i 0)) (woV m ρ (i 0)) c (ix2 (i 1 : Fin 32) (i 2 : Fin 1024))
/-- Slot `j` of it, as a load reads it. -/
def scV (c : Dev nD) (j : Fin 8) : Vec F S1x32x1024 .bf16 := fun i => scF m ρ c ((slotR j).emb i)
/-- The rows of the partial product of device `c` that it reduces itself. -/
def ownV (c : Dev nD) : Vec F S32x1024 .f32 := fun i => p32F m ρ c ((rowR c).emb i)

/-- The reduced rows of device `c` … -/
def redF (c : Dev nD) : FVec F S32x1024 .f32 :=
  k0_pay50 (k0_pay48 (ownV m ρ c) (scV m ρ c 0) (scV m ρ c 1)) (k0_pay49 (scV m ρ c 2)) (scV m ρ c 3) (scV m ρ c 4)
    (scV m ρ c 5) (scV m ρ c 6) (scV m ρ c 7)
/-- … and their rounding, which it sends to every other device. -/
def redB (c : Dev nD) : FVec F S32x1024 .bf16 :=
  k0_pay51 (k0_pay48 (ownV m ρ c) (scV m ρ c 0) (scV m ρ c 1)) (k0_pay49 (scV m ρ c 2)) (scV m ρ c 3) (scV m ρ c 4)
    (scV m ρ c 5) (scV m ρ c 6) (scV m ρ c 7)
def bbF (c : Dev nD) : Buf (Elt F) ((c : Thread nD τ).loc cc0_scratch4) := redB m ρ c

/-- The gathered reduced rows: slot `j` those of device `j`. -/
def bcF (c : Dev nD) : Buf (Elt F) ((c : Thread nD τ).loc cc0_scratch5) := fun i : S8x32x1024.Idx =>
  redB m ρ (i 0) (ix2 (i 1 : Fin 32) (i 2 : Fin 1024))
/-- Slot `j` of it, as a load reads it. -/
def bcV (c : Dev nD) (j : Fin 8) : Vec F S1x32x1024 .bf16 := fun i => bcF m ρ c ((slotR j).emb i)

/-- The result of device `c`: its own rows unrounded, the others' as they arrived. -/
def outF (c : Dev nD) : Vec F S1x256x1024 .f32 := fun i =>
  if (rowDiv (i 1)).val = c.val then redF m ρ c (ix2 (rowMod (i 1)) (i 2 : Fin 1024))
  else k0_pay52 (bcV m ρ c (rowDiv (i 1))) (ix2 (rowMod (i 1)) (i 2 : Fin 1024))

/-! ## The pieces the protocol hands about -/

/-- Rows `32 p …` of the rounded partial product, on device `c`. -/
def pbP (c : Dev nD) (p : Fin 8) (f : Buf (Elt F) ((c : Thread nD τ).loc cc0_scratch2)) : sProp 𝕄 :=
  iprop(((c : Thread nD τ).loc cc0_scratch2) ↦[(rowR p).set]{fullShare} f)
/-- Slot `j` of the buffer of gathered chunks. -/
def scP (c : Dev nD) (j : Fin 8) (f : Buf (Elt F) ((c : Thread nD τ).loc cc0_scratch3)) : sProp 𝕄 :=
  iprop(((c : Thread nD τ).loc cc0_scratch3) ↦[(slotR j).set]{fullShare} f)
/-- One of eight shares of the rounded reduced rows. -/
def bbP (c : Dev nD) (p : Fin 8) (f : Buf (Elt F) ((c : Thread nD τ).loc cc0_scratch4)) : sProp 𝕄 :=
  iprop(((c : Thread nD τ).loc cc0_scratch4) ↦[Finset.univ]{Idealize.ShloMosaic.ShareLeaves.leaf 3 fullShare p} f)
/-- Slot `j` of the buffer of gathered reduced rows. -/
def bcP (c : Dev nD) (j : Fin 8) (f : Buf (Elt F) ((c : Thread nD τ).loc cc0_scratch5)) : sProp 𝕄 :=
  iprop(((c : Thread nD τ).loc cc0_scratch5) ↦[(slotR j).set]{fullShare} f)
/-- Half `i` of the key and value staging buffer. -/
def kvP (c : Dev nD) (i : Fin 2) (f : Buf (Elt F) ((c : Thread nD τ).loc cc0_scratch0)) : sProp 𝕄 :=
  iprop(((c : Thread nD τ).loc cc0_scratch0) ↦[(kvR i).set]{fullShare} f)
/-- The columns of the key weights that device `c` takes, at their launch contents. -/
def kcolP (c : Dev nD) : sProp 𝕄 :=
  iprop(((c : Thread nD τ).loc main_arg3) ↦[(colR c).set]{fullShare} m ((c : Thread nD τ).loc main_arg3))
/-- The columns of the value weights. -/
def vcolP (c : Dev nD) : sProp 𝕄 :=
  iprop(((c : Thread nD τ).loc main_arg4) ↦[(colR c).set]{fullShare} m ((c : Thread nD τ).loc main_arg4))

instance (c : Dev nD) (p : Fin 8) (f) : BI.Storable (upEmb : UEmb _ 𝕄) (pbP (F := F) c p f) := by unfold pbP; infer_instance
instance (c : Dev nD) (p : Fin 8) (f) : BI.Storable (upEmb : UEmb _ 𝕄) (scP (F := F) c p f) := by unfold scP; infer_instance
instance (c : Dev nD) (p : Fin 8) (f) : BI.Storable (upEmb : UEmb _ 𝕄) (bbP (F := F) c p f) := by unfold bbP; infer_instance
instance (c : Dev nD) (p : Fin 8) (f) : BI.Storable (upEmb : UEmb _ 𝕄) (bcP (F := F) c p f) := by unfold bcP; infer_instance
instance (c : Dev nD) (i : Fin 2) (f) : BI.Storable (upEmb : UEmb _ 𝕄) (kvP (F := F) c i f) := by unfold kvP; infer_instance
instance (c : Dev nD) : BI.Storable (upEmb : UEmb _ 𝕄) (kcolP m c) := by unfold kcolP; infer_instance
instance (c : Dev nD) : BI.Storable (upEmb : UEmb _ 𝕄) (vcolP m c) := by unfold vcolP; infer_instance

/-! ## The schedule -/

/-- The credit of a copy of half a key and value staging buffer. -/
def nLd : ℕ := 32768
/-- The credit of a copy of 32 rounded rows. -/
def nXf : ℕ := 2048

/-- What the barrier of device `c` hands over from device `p`: `p`'s slots for `c`, at whatever they hold. -/
def givePay (c p : Dev nD) : sProp 𝕄 := iprop((∃ f, scP p c f) ∗ (∃ f, bcP p c f))

/-- What the wait at semaphore `k` of device `c` hands over. -/
def ownPay (c : Dev nD) : J → sProp 𝕄
  | .inl i => if i = 0 then iprop(kvP c 0 (kvF m c) ∗ kcolP m c) else iprop(kvP c 1 (kvF m c) ∗ vcolP m c)
  | .inr (k, p) =>
    if k = 0 then pbP c p (pbF m ρ c)
    else if k = 1 then scP c p (scF m ρ c)
    else if k = 2 then bbP c p (bbF m ρ c)
    else bcP c p (bcF m ρ c)

/-- Whether semaphore `k` of device `c` is used at all. -/
def used (c : Dev nD) : J → Prop
  | .inl i => i ≠ 2
  | .inr (_, p) => p ≠ c
instance (c : Dev nD) (k : J) : Decidable (used c k) := by unfold used; split <;> infer_instance

def dutiesOf (c : Dev nD) : Use → Finset (Fin 8)
  | .bar => Finset.univ.erase c
  | .own k => if used c k then {0} else ∅
  | .other => ∅
def amountOf' : Use → ℕ
  | .bar => 1
  | .own (.inl _) => nLd
  | .own (.inr _) => nXf
  | .other => 1
def payOf (c : Dev nD) (d : Fin 8) : Use → sProp 𝕄
  | .bar => givePay c d
  | .own k => ownPay m ρ c k
  | .other => iprop(emp)

def Rd : Rounds.Schedule (GSem nD τ sig) (Fin 8) 𝕄 where
  duties g r := if r = 0 ∧ g.1.2 = .tc then dutiesOf g.1.1 (useOf g.2) else ∅
  unitless _ := False
  amount g _ _ := amountOf' (useOf g.2)
  payload g _ d := payOf m ρ g.1.1 d (useOf g.2)
  amount_pos g _ _ _ := by
    show 0 < amountOf' _
    unfold amountOf'; split <;> decide

instance : ∀ (g : GSem nD τ sig) (r : ℕ) (d : Fin 8), BI.Storable (upEmb : UEmb _ 𝕄) ((Rd m ρ).payload g r d) := fun g r d => by
  show BI.Storable _ (payOf m ρ g.1.1 d (useOf g.2))
  unfold payOf givePay ownPay
  (repeat' split) <;> infer_instance

theorem duties_own (c : Dev nD) (k : J) (h : used c k) : (Rd m ρ).duties (cell c k) 0 = {0} := by
  show (if (0 : ℕ) = 0 ∧ (c : Thread nD τ).2 = .tc then dutiesOf c (useOf (osem k)) else ∅) = _
  rw [useOf_osem, if_pos ⟨rfl, rfl⟩]; exact if_pos h
theorem duties_idle (c : Dev nD) (k : J) (h : ¬ used c k) (r : ℕ) : (Rd m ρ).duties (cell c k) r = ∅ := by
  show (if r = 0 ∧ (c : Thread nD τ).2 = .tc then dutiesOf c (useOf (osem k)) else ∅) = _
  rw [useOf_osem, show dutiesOf c (.own k) = ∅ from if_neg h, ite_self]
theorem duties_bar (c : Dev nD) : (Rd m ρ).duties (barCell c) 0 = Finset.univ.erase c := by
  show (if (0 : ℕ) = 0 ∧ (c : Thread nD τ).2 = .tc then dutiesOf c .bar else ∅) = _
  rw [if_pos ⟨rfl, rfl⟩]; rfl
theorem duties_later (g : GSem nD τ sig) : ∀ r, 0 + 1 ≤ r → (Rd m ρ).duties g r = ∅ := fun r h => if_neg fun h' => by omega
theorem amount_own (c : Dev nD) (k : J) (d : Fin 8) : (Rd m ρ).amount (cell c k) 0 d = amountOf' (.own k) := by
  show amountOf' (useOf (osem k)) = _; rw [useOf_osem]
theorem payload_own (c : Dev nD) (k : J) (d : Fin 8) : (Rd m ρ).payload (cell c k) 0 d = ownPay m ρ c k := by
  show payOf m ρ c d (useOf (osem k)) = _; rw [useOf_osem]; rfl
theorem expect_own (c : Dev nD) (k : J) (h : used c k) : (Rd m ρ).expect (cell c k) 0 = amountOf' (.own k) := by
  unfold Schedule.expect Schedule.amountOf; rw [duties_own m ρ c k h, Finset.sum_singleton, amount_own]
theorem expect_bar (c : Dev nD) : (Rd m ρ).expect (barCell c) 0 = 7 := by
  unfold Schedule.expect Schedule.amountOf; rw [duties_bar]
  show ∑ _d ∈ Finset.univ.erase c, 1 = 7
  rw [Finset.sum_const, smul_eq_mul, mul_one]; revert c; decide
theorem rest_own (c : Dev nD) (k : J) (h : used c k) :
    bigSep ((Rd m ρ).duties (cell c k) 0 \ ∅) (fun d => (Rd m ρ).payload (cell c k) 0 d) = ownPay m ρ c k := by
  rw [Finset.sdiff_empty, duties_own m ρ c k h, bigSep_singleton, payload_own]
theorem rest_bar (c : Dev nD) :
    bigSep ((Rd m ρ).duties (barCell c) 0 \ ∅) (fun d => (Rd m ρ).payload (barCell c) 0 d)
      = bigSep (Finset.univ.erase c) fun d => givePay (F := F) c d := by
  rw [Finset.sdiff_empty, duties_bar]; rfl

/-! ## Families over the devices, one member at a time -/

/-- The members from `n` on … -/
def hi (n : ℕ) : Finset (Fin 8) := Finset.univ.filter fun q => n ≤ q.val
/-- … and those before `n`. -/
def lo (n : ℕ) : Finset (Fin 8) := Finset.univ.filter fun q => q.val < n

theorem hi_zero : hi 0 = Finset.univ := by decide
theorem hi_end : hi 8 = ∅ := by decide
theorem lo_zero : lo 0 = ∅ := by decide
theorem lo_end : lo 8 = Finset.univ := by decide
theorem hi_step (p : Fin 8) : hi p.val = insert p (hi (p.val + 1)) ∧ p ∉ hi (p.val + 1) := by revert p; decide
theorem lo_step (p : Fin 8) : lo (p.val + 1) = insert p (lo p.val) ∧ p ∉ lo p.val := by revert p; decide

omit [FloatOps F] in
theorem bigSep_hi (p : Fin 8) (Φ : Fin 8 → sProp 𝕄) : bigSep (hi p.val) Φ = iprop(Φ p ∗ bigSep (hi (p.val + 1)) Φ) := by
  rw [(hi_step p).1, bigSep_insert (hi_step p).2]; rfl
omit [FloatOps F] in
theorem bigSep_lo (p : Fin 8) (Φ : Fin 8 → sProp 𝕄) : bigSep (lo (p.val + 1)) Φ = iprop(Φ p ∗ bigSep (lo p.val) Φ) := by
  rw [(lo_step p).1, bigSep_insert (lo_step p).2]; rfl

/-- Nothing at the device itself, `A` at another. -/
def off (c q : Fin 8) (A : sProp 𝕄) : sProp 𝕄 := if q = c then iprop(emp) else A
omit [FloatOps F] in
theorem off_self (c : Fin 8) (A : sProp 𝕄) : off c c A = iprop(emp) := if_pos rfl
omit [FloatOps F] in
theorem off_ne {c q : Fin 8} (h : q ≠ c) (A : sProp 𝕄) : off c q A = A := if_neg h

/-- What is owed to the devices from `n` on but `c`. -/
def owe (c : Fin 8) (n : ℕ) (f : Fin 8 → CellTallies nD τ sig Unit) : CellTallies nD τ sig Unit :=
  ∑ q ∈ hi n, if q = c then 0 else f q
theorem owe_end (c : Fin 8) (f) : owe c 8 f = 0 := by unfold owe; rw [hi_end, Finset.sum_empty]
theorem owe_self (c : Fin 8) (f) : owe c c.val f = owe c (c.val + 1) f := by
  unfold owe; rw [(hi_step c).1, Finset.sum_insert (hi_step c).2, if_pos rfl, zero_add]
theorem owe_ne {c p : Fin 8} (h : p ≠ c) (f) : owe c p.val f = owe c (p.val + 1) f + f p := by
  unfold owe; rw [(hi_step p).1, Finset.sum_insert (hi_step p).2, if_neg h, add_comm]
theorem owe_pos {c : Fin 8} {n : ℕ} {f : Fin 8 → CellTallies nD τ sig Unit} {g u} (h : 0 < owe c n f g u) :
    n < 8 ∧ ∃ q, q ≠ c ∧ 0 < f q g u := by
  unfold owe at h
  rw [Finset.sum_apply, Finsupp.finset_sum_apply] at h
  obtain ⟨q, hq, hp⟩ := Finset.exists_ne_zero_of_sum_ne_zero (Nat.pos_iff_ne_zero.mp h)
  have hn : n < 8 := lt_of_le_of_lt (Finset.mem_filter.mp hq).2 q.isLt
  by_cases hc : q = c
  · rw [if_pos hc] at hp; exact absurd rfl hp
  · rw [if_neg hc] at hp; exact ⟨hn, q, hc, Nat.pos_of_ne_zero hp⟩

/-! ## What a device owes; the levels -/

/-- Device `c` still owes the barriers of the devices from `a` on a unit, those from `s` on their chunk, those from
    `b` on its reduced rows. -/
def O (c : Dev nD) (a s b : ℕ) : CellTallies nD τ sig Unit :=
  owe c a (fun q => tallyAt (barCell q) () 1) + owe c s (fun q => tallyAt (cell q (.inr (1, c))) () nXf)
    + owe c b (fun q => tallyAt (cell q (.inr (3, c))) () nXf)

def L (g : GSem nD τ sig) : Finset Unit := if g.1.2 = .tc then {()} else ∅
def lvOf : Use → ℕ
  | .bar => 1
  | .own (.inr (k, _)) => if k = 1 then 2 else if k = 3 then 3 else 0
  | _ => 0
/-- Barriers at 1, arrivals of chunks at 2, arrivals of reduced rows at 3, everything else at 0. -/
def lv (g : GSem nD τ sig) (_ : Unit) : ℕ := lvOf (useOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_own (c : Dev nD) (k : J) : lv (cell c k) () = lvOf (.own k) := by unfold lv; rw [useOf_osem]

theorem tallyAt_pos {g g' : GSem nD τ sig} {u : Unit} {n : ℕ} (h : 0 < tallyAt g () n g' u) : g' = g := by
  rw [tallyAt_apply] at h
  by_contra hn
  rw [if_neg fun h' => hn h'.1] at h
  exact Nat.lt_irrefl 0 h

theorem O_pos {c : Dev nD} {a s b : ℕ} {g : GSem nD τ sig} {u : Unit} (h : 0 < O c a s b g u) :
    (a < 8 ∧ ∃ q, g = barCell q) ∨ (s < 8 ∧ ∃ q, g = cell q (.inr (1, c))) ∨ (b < 8 ∧ ∃ q, g = cell q (.inr (3, c))) := by
  unfold O at h
  rw [Pi.add_apply, Finsupp.add_apply, Pi.add_apply, Finsupp.add_apply] at h
  by_contra hn
  rw [not_or, not_or] at hn
  have key : ∀ (n : ℕ) (f : Fin 8 → GSem nD τ sig) (k : ℕ), ¬ (n < 8 ∧ ∃ q, g = f q) →
      owe c n (fun q => tallyAt (f q) () k) g u = 0 := fun n f k hk => by
    by_contra h0
    obtain ⟨h8, q, -, hq⟩ := owe_pos (Nat.pos_of_ne_zero h0)
    exact hk ⟨h8, q, tallyAt_pos hq⟩
  rw [key _ (fun q => barCell q) _ hn.1, key _ (fun q => cell q (.inr (1, c))) _ hn.2.1, key _ (fun q => cell q (.inr (3, c))) _ hn.2.2] at h
  exact Nat.lt_irrefl 0 h

omit [FloatOps F] in
/-- A device may wait at a semaphore below everything it still owes. -/
theorem mayWait (c : Dev nD) (sm : SemLoc sig) (a s b : ℕ) (ha : a < 8 → lvOf (useOf sm) < 1) (hs : s < 8 → lvOf (useOf sm) < 2)
    (hb : b < 8 → lvOf (useOf sm) < 3) : (levAts L lv : sProp 𝕄) ⊢ MayWait (c : Thread nD τ) sm () (O c a s b) :=
  MayOwe.of_cut (L := L) (lev := lv) (lvOf (useOf sm))
    (fun p hp => by rw [Finset.mem_singleton.mp hp, L_tc]; exact Finset.mem_singleton_self _)
    (fun g u hg => by rcases O_pos hg with ⟨-, q, rfl⟩ | ⟨-, q, rfl⟩ | ⟨-, q, rfl⟩ <;> exact Finset.mem_singleton_self _)
    (fun p hp => by rw [Finset.mem_singleton.mp hp]; exact le_rfl)
    (fun g u hg => by
      rcases O_pos hg with ⟨h, q, rfl⟩ | ⟨h, q, rfl⟩ | ⟨h, q, rfl⟩
      · exact ha h
      · rw [lv_own]; exact hs h
      · rw [lv_own]; exact hb h)

/-- `c` owes that, whatever it has waited for. -/
def ow (c : Dev nD) (a s b : ℕ) : sProp 𝕄 := iprop(∃ W, owes (c : Thread nD τ) (O c a s b) W)

/-! ## The invariants, their names, the reached-facts and the levels: what every device knows throughout -/

def known (K : Dev nD × Option J → ℕ) : sProp 𝕄 :=
  iprop((bigSep Finset.univ fun x : Dev nD × Option J =>
      iprop(cellInv ER (Rd m ρ) (K x) (x.2.elim (barCell x.1) (cell x.1)) ∗ reached ER (x.2.elim (barCell x.1) (cell x.1)) 0))
    ∗ levAts L lv)

instance known_persistent (K : Dev nD × Option J → ℕ) : BI.Persistent (known m ρ K) := by unfold known; infer_instance

theorem known_own (K : Dev nD × Option J → ℕ) (c : Dev nD) (k : J) :
    known m ρ K ⊢ iprop(cellInv ER (Rd m ρ) (K (c, some k)) (cell c k) ∗ reached ER (cell c k) 0) := by
  unfold known
  iintro ⟨H, -⟩
  iapply (show (bigSep Finset.univ fun x : Dev nD × Option J =>
      iprop(cellInv ER (Rd m ρ) (K x) (x.2.elim (barCell x.1) (cell x.1)) ∗ reached ER (x.2.elim (barCell x.1) (cell x.1)) 0)) ⊢ _
    from bigSep_elim (i := ((c, some k) : Dev nD × Option J)) (Finset.mem_univ _)) $$ H

theorem known_bar (K : Dev nD × Option J → ℕ) (c : Dev nD) :
    known m ρ K ⊢ iprop(cellInv ER (Rd m ρ) (K (c, none)) (barCell c) ∗ reached ER (barCell c) 0) := by
  unfold known
  iintro ⟨H, -⟩
  iapply (show (bigSep Finset.univ fun x : Dev nD × Option J =>
      iprop(cellInv ER (Rd m ρ) (K x) (x.2.elim (barCell x.1) (cell x.1)) ∗ reached ER (x.2.elim (barCell x.1) (cell x.1)) 0)) ⊢ _
    from bigSep_elim (i := ((c, none) : Dev nD × Option J)) (Finset.mem_univ _)) $$ H

theorem known_lev (K : Dev nD × Option J → ℕ) : known m ρ K ⊢ (levAts L lv : sProp 𝕄) := by
  unfold known; iintro ⟨-, H⟩; iexact H

end Cert.Fused
-- ==== Proof.Views.lean ====
/-
# The views the transfers name, and what a landing leaves

Each transfer moves 32 rows, or the columns a device takes of a weight matrix.  Here: which elements each view has, and
that what a landing writes there is what the buffer is to hold.
-/
module

public import proofs.«01_k».proof.Proof.Common

@[expose] public section

set_option maxRecDepth 16384

noncomputable section

namespace Cert.Fused

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The views -/

/-- Rows `32 p …` of the rounded partial product, the source of a chunk's transfer. -/
abbrev rM (p : Fin 8) : Memref sig .tc .vmem S32x1024 .bf16 := (Memref.whole cc0_scratch2).slice (rowR p) (fun _ => rfl)
/-- Slot `j` of the gathered chunks, a chunk's destination. -/
abbrev sM (j : Fin 8) : Memref sig .tc .vmem S32x1024 .bf16 :=
  ((Memref.whole cc0_scratch3).slice (slotR j) (fun _ => rfl)).squeeze S32x1024 squeezes_S1x32x1024_S32x1024
/-- Slot `j` of the gathered reduced rows. -/
abbrev bM (j : Fin 8) : Memref sig .tc .vmem S32x1024 .bf16 :=
  ((Memref.whole cc0_scratch5).slice (slotR j) (fun _ => rfl)).squeeze S32x1024 squeezes_S1x32x1024_S32x1024
/-- Half `i` of the key and value staging buffer. -/
abbrev kM (i : Fin 2) : Memref sig .tc .vmem S1024x256 .f32 :=
  ((Memref.whole cc0_scratch0).slice (kvR i) (fun _ => rfl)).squeeze S1024x256 squeezes_S1x1024x256_S1024x256
/-- The columns of a weight matrix that device `c` takes. -/
abbrev colM3 (c : Dev nD) : Memref sig .tc .hbm S1024x256 .f32 := (Memref.whole main_arg3).slice (colR c) (fun _ => rfl)
abbrev colM4 (c : Dev nD) : Memref sig .tc .hbm S1024x256 .f32 := (Memref.whole main_arg4).slice (colR c) (fun _ => rfl)

theorem set_rM (p : Fin 8) : (rM p).view.set = (rowR p).set := View.set_slice_whole cc0_scratch2 _
theorem set_sM (j : Fin 8) : (sM j).view.set = (slotR j).set :=
  (Memref.set_view_squeeze _ _).trans (View.set_slice_whole cc0_scratch3 _)
theorem set_bM (j : Fin 8) : (bM j).view.set = (slotR j).set :=
  (Memref.set_view_squeeze _ _).trans (View.set_slice_whole cc0_scratch5 _)
theorem set_kM (i : Fin 2) : (kM i).view.set = (kvR i).set :=
  (Memref.set_view_squeeze _ _).trans (View.set_slice_whole cc0_scratch0 _)
theorem set_colM3 (c : Dev nD) : (colM3 c).view.set = (colR c).set := View.set_slice_whole main_arg3 _
theorem set_colM4 (c : Dev nD) : (colM4 c).view.set = (colR c).set := View.set_slice_whole main_arg4 _

/-! ## Where their elements lie -/

theorem emb_slotR (j : Fin 8) (y : S1x32x1024.Idx) : (slotR j).emb y = ix3 j (y 1 : Fin 32) (y 2 : Fin 1024) := by
  funext a; apply Fin.ext
  have h0 : (y 0).val = 0 := Nat.lt_one_iff.mp (y 0).isLt
  match a with
  | ⟨0, _⟩ => show j.val + 1 * (y 0).val = j.val; omega
  | ⟨1, _⟩ => show 0 + 1 * (y 1).val = (y 1).val; omega
  | ⟨2, _⟩ => show 0 + 1 * (y 2).val = (y 2).val; omega
theorem emb_rowR (p : Fin 8) (y : S32x1024.Idx) :
    (rowR p).emb y = ix2 (⟨32 * p.val + (y 0).val, by
      have := p.isLt; have h : (y 0).val < 32 := (y 0).isLt; omega⟩ : Fin 256) (y 1 : Fin 1024) := by
  funext a; apply Fin.ext
  match a with
  | ⟨0, _⟩ => show 32 * p.val + 1 * (y 0).val = 32 * p.val + (y 0).val; omega
  | ⟨1, _⟩ => show 0 + 1 * (y 1).val = (y 1).val; omega
theorem emb_kvR (i : Fin 2) (y : S1x1024x256.Idx) : (kvR i).emb y = ix3 i (y 1 : Fin 1024) (y 2 : Fin 256) := by
  funext a; apply Fin.ext
  have h0 : (y 0).val = 0 := Nat.lt_one_iff.mp (y 0).isLt
  match a with
  | ⟨0, _⟩ => show i.val + 1 * (y 0).val = i.val; omega
  | ⟨1, _⟩ => show 0 + 1 * (y 1).val = (y 1).val; omega
  | ⟨2, _⟩ => show 0 + 1 * (y 2).val = (y 2).val; omega
theorem emb_colR (c : Dev nD) (y : S1024x256.Idx) :
    (colR c).emb y = ix2 (y 0 : Fin 1024) (⟨256 * c.val + (y 1).val, by
      have : c.val < 8 := c.isLt; have h : (y 1).val < 256 := (y 1).isLt; omega⟩ : Fin 2048) := by
  funext a; apply Fin.ext
  match a with
  | ⟨0, _⟩ => show 0 + 1 * (y 0).val = (y 0).val; omega
  | ⟨1, _⟩ => show 256 * c.val + 1 * (y 1).val = 256 * c.val + (y 1).val; omega

theorem emb_sM (j : Fin 8) (y : S32x1024.Idx) : (sM j).view.emb y = ix3 j (y 0 : Fin 32) (y 1 : Fin 1024) := by
  show (slotR j).emb (Shape.reshapeEquiv squeezes_S1x32x1024_S32x1024.numel_eq y) = _
  rw [emb_slotR, Shape.reshapeEquiv_cons_one]; rfl
theorem emb_bM (j : Fin 8) (y : S32x1024.Idx) : (bM j).view.emb y = ix3 j (y 0 : Fin 32) (y 1 : Fin 1024) := by
  show (slotR j).emb (Shape.reshapeEquiv squeezes_S1x32x1024_S32x1024.numel_eq y) = _
  rw [emb_slotR, Shape.reshapeEquiv_cons_one]; rfl
theorem emb_kM (i : Fin 2) (y : S1024x256.Idx) : (kM i).view.emb y = ix3 i (y 0 : Fin 1024) (y 1 : Fin 256) := by
  show (kvR i).emb (Shape.reshapeEquiv squeezes_S1x1024x256_S1024x256.numel_eq y) = _
  rw [emb_kvR, Shape.reshapeEquiv_cons_one]; rfl

theorem rowDiv_row (p : Fin 8) (r : Fin 32) (h) : rowDiv ⟨32 * p.val + r.val, h⟩ = p :=
  Fin.ext (by show (32 * p.val + r.val) / 32 = p.val; have := r.isLt; omega)
theorem rowMod_row (p : Fin 8) (r : Fin 32) (h) : rowMod ⟨32 * p.val + r.val, h⟩ = r :=
  Fin.ext (by show (32 * p.val + r.val) % 32 = r.val; have := r.isLt; omega)

/-- What a view is written, it holds at its elements. -/
theorem landed {κ : Kind} {sp : Space} {s : Shape} {e : EltTy} {v : View sig κ sp s e} {f g : BufTy.Contents (Elt F) v.ty}
    {w : s.Idx → Elt F e} (h : ∀ y, v.write (Elt F) f w Finset.univ (v.emb y) = g (v.emb y)) :
    ∀ i ∈ v.set, v.write (Elt F) f w Finset.univ i = g i := fun i hi => by
  obtain ⟨y, -, rfl⟩ := Finset.mem_map.mp hi
  exact h y

/-! ## The contents at the views -/

theorem pbF_row (c : Dev nD) (p : Fin 8) (y : S32x1024.Idx) :
    pbF m ρ c ((rowR p).emb y) = chunkB (attnV m ρ c) (woV m ρ c) p y := by
  rw [emb_rowR]
  show chunkB (attnV m ρ c) (woV m ρ c) (rowDiv ⟨32 * p.val + (y 0).val, _⟩) (ix2 (rowMod ⟨32 * p.val + (y 0).val, _⟩) (y 1 : Fin 1024)) = _
  rw [rowDiv_row p (y 0), rowMod_row p (y 0)]; exact congrArg _ (eq_ix2 y).symm
theorem p32F_row (c : Dev nD) (p : Fin 8) (y : S32x1024.Idx) :
    p32F m ρ c ((rowR p).emb y) = chunkF (attnV m ρ c) (woV m ρ c) p y := by
  rw [emb_rowR]
  show chunkF (attnV m ρ c) (woV m ρ c) (rowDiv ⟨32 * p.val + (y 0).val, _⟩) (ix2 (rowMod ⟨32 * p.val + (y 0).val, _⟩) (y 1 : Fin 1024)) = _
  rw [rowDiv_row p (y 0), rowMod_row p (y 0)]; exact congrArg _ (eq_ix2 y).symm
theorem scF_slot {c j : Fin 8} (h : j ≠ c) (a : Fin 32) (b : Fin 1024) :
    scF m ρ c (ix3 j a b) = chunkB (attnV m ρ j) (woV m ρ j) c (ix2 a b) :=
  if_neg fun h' => h (Fin.ext h')
theorem scF_own (c : Fin 8) (a : Fin 32) (b : Fin 1024) :
    scF m ρ c (ix3 c a b) = k0_pay47 (F := F) (ix3 (0 : Fin 1) a b) := if_pos rfl

/-- The chunk of device `c` for device `p`, landed in `p`'s slot for `c`. -/
theorem sent_chunk {c p : Fin 8} (h : p ≠ c) (f : Buf (Elt F) (((p : Dev nD) : Thread nD τ).loc cc0_scratch3)) :
    ∀ i ∈ (sM c).view.set, (sM c).view.write (Elt F) f ((rM p).view.read (Elt F) (pbF m ρ c)) Finset.univ i = scF m ρ p i :=
  landed fun y => by
    refine (View.write_emb_of_mem (v := (sM c).view) _ _ (Finset.mem_univ _)).trans ?_
    rw [emb_sM]
    refine Eq.trans ?_ (scF_slot m ρ h.symm (y 0) (y 1)).symm
    exact (pbF_row m ρ c p y).trans (congrArg _ (eq_ix2 y))
/-- The reduced rows of device `c`, landed in `p`'s slot for `c`. -/
theorem sent_red {c p : Fin 8} (f : Buf (Elt F) (((p : Dev nD) : Thread nD τ).loc cc0_scratch5)) :
    ∀ i ∈ (bM c).view.set, (bM c).view.write (Elt F) f
      ((Memref.whole cc0_scratch4 : Memref sig .tc .vmem S32x1024 .bf16).view.read (Elt F) (bbF m ρ c)) Finset.univ i = bcF m ρ p i :=
  landed fun y => by
    refine (View.write_emb_of_mem (v := (bM c).view) _ _ (Finset.mem_univ _)).trans ?_
    rw [emb_bM]
    exact congrArg (redB m ρ c) (eq_ix2 y)
/-- The key columns, landed in the staging buffer. -/
theorem sent_key (c : Dev nD) (f : Buf (Elt F) ((c : Thread nD τ).loc cc0_scratch0)) :
    ∀ i ∈ (kM 0).view.set, (kM 0).view.write (Elt F) f ((colM3 c).view.read (Elt F) (m ((c : Thread nD τ).loc main_arg3))) Finset.univ i
      = kvF m c i :=
  landed fun y => by
    refine (View.write_emb_of_mem (v := (kM 0).view) _ _ (Finset.mem_univ _)).trans ?_
    rw [emb_kM]
    refine Eq.trans ?_ (if_pos rfl).symm
    exact congrArg (m ((c : Thread nD τ).loc main_arg3)) (emb_colR c y)
/-- The value columns. -/
theorem sent_val (c : Dev nD) (f : Buf (Elt F) ((c : Thread nD τ).loc cc0_scratch0)) :
    ∀ i ∈ (kM 1).view.set, (kM 1).view.write (Elt F) f ((colM4 c).view.read (Elt F) (m ((c : Thread nD τ).loc main_arg4))) Finset.univ i
      = kvF m c i :=
  landed fun y => by
    refine (View.write_emb_of_mem (v := (kM 1).view) _ _ (Finset.mem_univ _)).trans ?_
    rw [emb_kM]
    refine Eq.trans ?_ (if_neg Nat.one_ne_zero).symm
    exact congrArg (m ((c : Thread nD τ).loc main_arg4)) (emb_colR c y)

/-! ## The credits -/

theorem credit_sM (j : Fin 8) : (sM j).view.dmaCredit = nXf := by revert j; decide +kernel
theorem credit_bM (j : Fin 8) : (bM j).view.dmaCredit = nXf := by revert j; decide +kernel
theorem credit_rM (p : Fin 8) : (rM p).view.dmaCredit = nXf := by revert p; decide +kernel
theorem credit_bb : (Memref.whole cc0_scratch4 : Memref sig .tc .vmem S32x1024 .bf16).view.dmaCredit = nXf := by decide +kernel
theorem credit_kM (i : Fin 2) : (kM i).view.dmaCredit = nLd := by revert i; decide +kernel

/-! ## The pieces, as the views hold them -/

omit [FloatOps F] in
theorem pbP_eq (c : Dev nD) (p : Fin 8) (f) :
    (pbP c p f : sProp 𝕄) = iprop((rM p).view.loc (c : Thread nD τ) ↦[(rM p).view.set]{fullShare} f) := by unfold pbP; rw [set_rM]
omit [FloatOps F] in
theorem scP_eq (c : Dev nD) (p : Fin 8) (f) :
    (scP c p f : sProp 𝕄) = iprop((sM p).view.loc (c : Thread nD τ) ↦[(sM p).view.set]{fullShare} f) := by unfold scP; rw [set_sM]
omit [FloatOps F] in
theorem bcP_eq (c : Dev nD) (p : Fin 8) (f) :
    (bcP c p f : sProp 𝕄) = iprop((bM p).view.loc (c : Thread nD τ) ↦[(bM p).view.set]{fullShare} f) := by unfold bcP; rw [set_bM]
omit [FloatOps F] in
theorem kvP_eq (c : Dev nD) (i : Fin 2) (f) :
    (kvP c i f : sProp 𝕄) = iprop((kM i).view.loc (c : Thread nD τ) ↦[(kM i).view.set]{fullShare} f) := by unfold kvP; rw [set_kM]
theorem kcolP_eq (c : Dev nD) : kcolP m c
    = iprop((colM3 c).view.loc (c : Thread nD τ) ↦[(colM3 c).view.set]{fullShare} m ((c : Thread nD τ).loc main_arg3)) := by
  unfold kcolP; rw [set_colM3]
theorem vcolP_eq (c : Dev nD) : vcolP m c
    = iprop((colM4 c).view.loc (c : Thread nD τ) ↦[(colM4 c).view.set]{fullShare} m ((c : Thread nD τ).loc main_arg4)) := by
  unfold vcolP; rw [set_colM4]

end Cert.Fused
-- ==== Proof.Steps.lean ====
/-
# The protocol's steps, one lemma for each kind

The printed body writes out eight copies of each step, one for each device, and skips the copy for the device itself.
A step's state is a family over the devices: the members from `n` on are still to be done, those before `n` are done,
and each lemma does member `p` — or skips it.
-/
module

public import proofs.«01_k».proof.Proof.Views

@[expose] public section

set_option maxRecDepth 16384

noncomputable section

namespace Cert.Fused

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a program of device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

omit [FloatOps F] in
theorem emp_sep_eq (A : sProp 𝕄) : iprop(emp ∗ A) = A := Entails.antisymm (emp_sep (PROP := sProp 𝕄)).1 (emp_sep (PROP := sProp 𝕄)).2

theorem wp_done (c : Dev nD) {α : Type} (a : α) (Q : α → sProp 𝕄) : Q a ⊢ WP c (pure a) Q := by
  show _ ⊢ wp _ _ _ (.ret a) _
  rw [wp_ret]; exact fupd_intro

/-- What is owed before a step is what is owed after it and what the step pays. -/
theorem O_bar {c p : Fin 8} (h : p ≠ c) (s b : ℕ) : O c p.val s b = O c (p.val + 1) s b + tallyAt (barCell p) () 1 := by
  unfold O; rw [owe_ne h, add_right_comm _ (tallyAt _ _ _), add_right_comm _ (tallyAt _ _ _)]
theorem O_snd {c p : Fin 8} (h : p ≠ c) (a b : ℕ) : O c a p.val b = O c a (p.val + 1) b + tallyAt (cell p (.inr (1, c))) () nXf := by
  unfold O; rw [owe_ne h, ← add_assoc, add_right_comm _ (tallyAt _ _ _)]
theorem O_bc {c p : Fin 8} (h : p ≠ c) (a s : ℕ) : O c a s p.val = O c a s (p.val + 1) + tallyAt (cell p (.inr (3, c))) () nXf := by
  unfold O; rw [owe_ne h, ← add_assoc]
theorem O_bar_self (c : Fin 8) (s b : ℕ) : O c c.val s b = O c (c.val + 1) s b := by unfold O; rw [owe_self]
theorem O_snd_self (c : Fin 8) (a b : ℕ) : O c a c.val b = O c a (c.val + 1) b := by unfold O; rw [owe_self]
theorem O_bc_self (c : Fin 8) (a s : ℕ) : O c a s c.val = O c a s (c.val + 1) := by unfold O; rw [owe_self]

theorem wp_lift (c : Dev nD) {α β : Type} {e : TpuEff nD τ sig (Elt F) Λ₀ .tc β} {k : β → Prog (TpuEff nD τ sig (Elt F) Λ₀ .tc) α}
    {Q : α → sProp 𝕄} : WP c (.op e k) Q ⊢ WP c (Prog.lift e >>= k) Q := Entails.of_eq rfl
theorem wp_dev (c : Dev nD) {α : Type} {k : Dev nD → Prog (TpuEff nD τ sig (Elt F) Λ₀ .tc) α}
    {Q : α → sProp 𝕄} : WP c (k c) Q ⊢ WP c (Prog.lift .deviceId >>= k) Q :=
  Entails.of_eq (by simp only [Prog.lift, Prog.bind_op, Prog.bind_ret, wp_deviceId])
theorem wp_then (c : Dev nD) {α β : Type} {p : Prog (TpuEff nD τ sig (Elt F) Λ₀ .tc) β} {k : β → Prog (TpuEff nD τ sig (Elt F) Λ₀ .tc) α}
    {Q : α → sProp 𝕄} : WP c p (fun a => WP c (k a) Q) ⊢ WP c (p >>= k) Q := Entails.of_eq (wp_bind ..).symm

variable (K : Dev nD × Option J → ℕ)

/-! ## The signals of the barriers -/

/-- The barriers from `n` on are still to be signalled. -/
def sigSt (c : Dev nD) (n : ℕ) : sProp 𝕄 :=
  iprop(ow c n 0 0 ∗ bigSep (hi n) fun q => off c q iprop(dutyTok ER (barCell q) 0 c ∗ givePay q c))

theorem sig_step (c : Dev nD) (p : Fin 8) (n n' : ℕ) (hn : n = p.val) (hn' : n' = p.val + 1) {cond : BitVec 1}
    {dev : cond = 1#1 → Dev nD} (hc : cond = 1#1 ↔ p ≠ c) (hd : ∀ h, dev h = p) {α : Type} (k₀ : Prog (TpuEff nD τ sig (Elt F) Λ₀ .tc) α) (Q : α → sProp 𝕄) :
    iprop(known m ρ K ∗ sigSt c n ∗ (sigSt c n' -∗ WP c k₀ Q))
      ⊢ WP c (if h : cond = 1#1 then (do semSignalWord (dev h) barS 1#32; k₀) else k₀) Q := by
  subst hn hn'
  by_cases hp : p = c
  · subst hp
    rw [dif_neg (fun h => hc.mp h rfl)]
    unfold sigSt ow
    rw [O_bar_self, bigSep_hi, off_self, emp_sep_eq]
    iintro ⟨-, Hst, Hk⟩
    iapply Hk; iexact Hst
  · have h1 := hc.mpr hp
    rw [dif_pos h1]
    obtain rfl : dev h1 = p := hd h1
    generalize dev h1 = p at *
    unfold sigSt ow
    rw [bigSep_hi, off_ne hp]
    iintro ⟨#HK, ⟨⟨%W, HO⟩, ⟨Htok, Hgive⟩, Hrest⟩, Hk⟩
    ihave #HB := (known_bar m ρ K p) $$ HK
    icases HB with ⟨#HI, #HR⟩
    simp only [semSignalWord, Prog.bind_op, Prog.bind_ret, show (1#32 : BitVec 32).toInt = ((1 : ℕ) : ℤ) from rfl]
    iapply (Rounds.wp_signal 𝒱₀ ER (Rd m ρ) (c : Thread nD τ) none (dst := (p : Thread nD τ)) (κ := K (p, none)) (r := 0)
      (d := c) (k' := 1) (by rw [duties_bar]; exact Finset.mem_erase.mpr ⟨fun h => hp h.symm, Finset.mem_univ _⟩) rfl () (O₀ := O c p.val 0 0) (W := W) (O c (p.val + 1) 0 0)
      (O_bar hp 0 0)) $$ [HO Htok Hgive]
    · isplitr; · iexact HI
      isplitl [HO]; · iexact HO
      isplitl [Htok]; · iexact Htok
      isplitl [Hgive]; · rw [show (Rd m ρ).payload (barCell p) 0 c = givePay p c from rfl]; iexact Hgive
      iexact HR
    iintro HO
    iapply Hk
    isplitl [HO]; · iexists W; iexact HO
    iexact Hrest

/-! ## A wait at a semaphore of the device's own -/

/-- The wait at a used semaphore hands over its payload, and closes the cell. -/
theorem wait_own (c : Dev nD) (k : J) (hk : used c k) (a s b : ℕ) (ha : a < 8 → lvOf (.own k) < 1) (hs : s < 8 → lvOf (.own k) < 2)
    (hb : b < 8 → lvOf (.own k) < 3) {sem : DmaSem sig} (hsem : sem = jno k) {sp sp' : Space} {κ' : Kind} {s₁ s₂ : Shape} {e e' : EltTy}
    {src : Memref sig .tc sp' s₁ e'} {dst : Memref sig κ' sp s₂ e} {hsrc : src.view.WordExact} {hdst : dst.view.WordExact}
    (hcr : dst.view.dmaCredit = amountOf' (.own k)) {α : Type} (k' : PUnit → Prog (TpuEff nD τ sig (Elt F) Λ₀ .tc) α) (Q : α → sProp 𝕄) :
    iprop(known m ρ K ∗ ow c a s b ∗ atPos ER (cell c k) 0 ∅ 0 ∗ cred (tallyAt (cell c k) () (amountOf' (.own k)))
        ∗ ((ow c a s b ∗ ownPay m ρ c k ∗ semVal (cell c k) 0) -∗ WP c (k' ⟨⟩) Q))
      ⊢ WP c (.op (.waitDma2 sem src dst hsrc hdst) k') Q := by
  subst hsem
  unfold ow
  rw [← hcr]
  iintro ⟨#HK, ⟨%W, HO⟩, Hat, Hcr, Hk⟩
  ihave #HB := (known_own m ρ K c k) $$ HK
  icases HB with ⟨#HI, #HR⟩
  iapply (Rounds.wp_wait_rest_token 𝒱₀ ER (Rd m ρ) (c : Thread nD τ) none (κ := K (c, some k))
      (wpE_waitDma2_eq 𝒱₀ (c : Thread nD τ) none Set.univ) (Set.mem_univ _) () (O := O c a s b) (W := W) (R := 0) (m := 0) (T := ∅)
      (by rw [Nat.zero_add, show (((c : Thread nD τ), SemLoc.dma (jno k)) : GSem nD τ sig) = cell c k from rfl, expect_own m ρ c k hk, hcr])) $$ [Hcr HO Hat]
  · isplitr; · iexact HI
    isplitl [Hcr]; · iexact Hcr
    isplitl [HO]; · iexact HO
    isplitr
    · iapply (mayWait c (.dma (jno k)) a s b (by rw [show useOf (.dma (jno k)) = _ from useOf_osem k]; exact ha)
        (by rw [show useOf (.dma (jno k)) = _ from useOf_osem k]; exact hs) (by rw [show useOf (.dma (jno k)) = _ from useOf_osem k]; exact hb))
      iapply (known_lev m ρ K); iexact HK
    iexact Hat
  iintro ⟨HO, Hat, -, Hpay⟩
  ihave Hp := (Entails.of_eq (rest_own m ρ c k hk)) $$ Hpay
  imod (Rounds.cell_close ER (Rd m ρ) (Set.mem_univ (K (c, some k))) (fun h => h) (R := 0 + 1) (duties_later m ρ (cell c k))) $$ [Hat] with Hz
  · isplitr; · iexact HI
    iexact Hat
  iapply Hk
  isplitl [HO]; · iexists _; iexact HO
  isplitl [Hp]; · iexact Hp
  iexact Hz

/-- The wait at the barrier hands over the other devices' slots for this one, and closes the barrier. -/
theorem wait_bar (c : Dev nD) {α : Type} (k' : PUnit → Prog (TpuEff nD τ sig (Elt F) Λ₀ .tc) α) (Q : α → sProp 𝕄) :
    iprop(known m ρ K ∗ ow c 8 0 0 ∗ atPos ER (barCell c) 0 ∅ 0 ∗ cred (tallyAt (barCell c) () 7)
        ∗ ((ow c 8 0 0 ∗ (bigSep (Finset.univ.erase c) fun d => givePay (F := F) c d) ∗ semVal (barCell c) 0) -∗ WP c (k' ⟨⟩) Q))
      ⊢ WP c (.op (.semWait barS (7#32 : BitVec 32).toInt) k') Q := by
  unfold ow
  rw [show (7#32 : BitVec 32).toInt = ((7 : ℕ) : ℤ) from rfl]
  iintro ⟨#HK, ⟨%W, HO⟩, Hat, Hcr, Hk⟩
  ihave #HB := (known_bar m ρ K c) $$ HK
  icases HB with ⟨#HI, #HR⟩
  iapply (Rounds.wp_wait_rest_token 𝒱₀ ER (Rd m ρ) (c : Thread nD τ) none (κ := K (c, none))
      (wpE_semWait_eq 𝒱₀ (c : Thread nD τ) none Set.univ) (Set.mem_univ _) () (O := O c 8 0 0) (W := W) (R := 0) (m := 0) (T := ∅)
      (by rw [Nat.zero_add, expect_bar])) $$ [Hcr HO Hat]
  · isplitr; · iexact HI
    isplitl [Hcr]; · iexact Hcr
    isplitl [HO]; · iexact HO
    isplitr
    · iapply (mayWait c (.reg barS) 8 0 0 (fun h => absurd h (lt_irrefl _)) (fun _ => by decide) (fun _ => by decide))
      iapply (known_lev m ρ K); iexact HK
    iexact Hat
  iintro ⟨HO, Hat, -, Hpay⟩
  ihave Hp := (Entails.of_eq (rest_bar m ρ c)) $$ Hpay
  imod (Rounds.cell_close ER (Rd m ρ) (Set.mem_univ (K (c, none))) (fun h => h) (R := 0 + 1) (duties_later m ρ (barCell c))) $$ [Hat] with Hz
  · isplitr; · iexact HI
    iexact Hat
  iapply Hk
  isplitl [HO]; · iexists _; iexact HO
  isplitl [Hp]; · iexact Hp
  iexact Hz

/-! ## The chunks' transfers -/

abbrev Pt (b : Ref sig .tc) (c : Dev nD) (f : Buf (Elt F) ((c : Thread nD τ).loc b)) : sProp 𝕄 := iprop(((c : Thread nD τ).loc b) ↦{fullShare} f)

/-- One transfer's addressed half: device `c`'s source piece to `p`, paying `c`'s send semaphore `(i, p)` and `p`'s arrival
    semaphore `(i', c)`. -/
theorem send_own (c p : Dev nD) (hp : p ≠ c) (i i' : Fin 4) (O₁ O₂ : CellTallies nD τ sig Unit) (W : Waits sig Unit)
    (hO : O₁ = O₂ + tallyAt (cell p (.inr (i', c))) () nXf)
    {src dst src' dst' : Memref sig .tc .vmem S32x1024 .bf16} (hs : src' = src) (hd : dst' = dst) {d : Dev nD} (hdev : p = d) {ss rs : DmaSem sig} (hss : ss = jno (.inr (i, p))) (hrs : rs = jno (.inr (i', c)))
    {hsc : dst'.view.ref.isScScratch = false} {hsrc : src'.view.WordExact} {hdst : dst'.view.WordExact}
    {hsem : DmaTarget.Typed .vmem (.dma rs) (.remote (Dev.tc d : Thread nD τ) dst' (.dma ss) hsc)}
    (hN : dst.view.dmaCredit = nXf) {q : PosShare TreeShare} (fs : Buf (Elt F) (src.view.loc (c : Thread nD τ)))
    (fd : Buf (Elt F) (dst.view.loc (Dev.tc p : Thread nD τ)))
    (h₁ : (src.view.loc (c : Thread nD τ) ↦[src.view.set]{q} fs) ⊢ ownPay m ρ c (.inr (i, p)))
    (h₂ : (dst.view.loc (Dev.tc p : Thread nD τ) ↦[dst.view.set]{fullShare} (dst.view.write (Elt F) fd (src.view.read (Elt F) fs) Finset.univ))
      ⊢ ownPay m ρ p (.inr (i', c)))
    {α : Type} (k' : PUnit → Prog (TpuEff nD τ sig (Elt F) Λ₀ .tc) α) (Q : α → sProp 𝕄) :
    iprop(known m ρ K ∗ owes (c : Thread nD τ) O₁ W ∗ (src.view.loc (c : Thread nD τ) ↦[src.view.set]{q} fs)
        ∗ (dst.view.loc (Dev.tc p : Thread nD τ) ↦[dst.view.set]{fullShare} fd)
        ∗ dutyTok ER (cell c (.inr (i, p))) 0 0 ∗ dutyTok ER (cell p (.inr (i', c))) 0 0
        ∗ ((owes (c : Thread nD τ) O₂ W ∗ cred (tallyAt (cell c (.inr (i, p))) () nXf)) -∗ WP c (k' ⟨⟩) Q))
      ⊢ WP c (.op (.enqueueDma src' (.remote (Dev.tc d) dst' (.dma ss) hsc) (.dma rs) hsrc hdst hsem) k') Q := by
  subst hss hrs hs hd hdev
  iintro ⟨#HK, HO, Hsrc, Hdst, Ht, Ht', Hk⟩
  ihave #HB := (known_own m ρ K c (.inr (i, p))) $$ HK
  icases HB with ⟨#HI, #HR⟩
  ihave #HB' := (known_own m ρ K p (.inr (i', c))) $$ HK
  icases HB' with ⟨#HI', #HR'⟩
  iapply (Rounds.wp_send_pointsTo 𝒱₀ ER (Rd m ρ) (c : Thread nD τ) none (κ₁ := K (c, some (.inr (i, p)))) (κ₂ := K (p, some (.inr (i', c))))
      (r₁ := 0) (r₂ := 0) (d₁ := (0 : Fin 8)) (d₂ := (0 : Fin 8)) (fs := fs) (fd := fd) (c' := (Dev.tc p : Thread nD τ))
      (sS := .dma (jno (.inr (i, p)))) (sem := .dma (jno (.inr (i', c))))
      (by rw [show (((c : Thread nD τ), SemLoc.dma (jno (.inr (i, p)))) : GSem nD τ sig) = cell c (.inr (i, p)) from rfl,
            duties_own m ρ c (.inr (i, p)) hp]; exact Finset.mem_singleton_self _)
      (by rw [show ((Dev.tc p, SemLoc.dma (jno (.inr (i', c)))) : GSem nD τ sig) = cell p (.inr (i', c)) from rfl,
            duties_own m ρ p (.inr (i', c)) (Ne.symm hp)]; exact Finset.mem_singleton_self _)
      () () nXf hN (amount_own m ρ c (.inr (i, p)) 0) (amount_own m ρ p (.inr (i', c)) 0) (O₀ := O₁) (W := W) O₂ hO
      (h₁.trans (Entails.of_eq (payload_own m ρ c (.inr (i, p)) 0).symm)) (h₂.trans (Entails.of_eq (payload_own m ρ p (.inr (i', c)) 0).symm)))
    $$ [HO Hsrc Hdst Ht Ht']
  · isplitr; · iexact HI
    isplitr; · iexact HI'
    isplitl [Hsrc]; · iexact Hsrc
    isplitl [Hdst]; · iexact Hdst
    isplitl [HO]; · iexact HO
    isplitl [Ht]; · iexact Ht
    isplitr; · iexact HR
    isplitl [Ht']; · iexact Ht'
    iexact HR'
  iintro ⟨Hc, HO⟩
  iapply Hk
  isplitl [HO]; · iexact HO
  iexact Hc

/-- Chunks before `n` are sent; those from `n` on have their tokens and the slots they go to. -/
def sndSt (c : Dev nD) (n : ℕ) : sProp 𝕄 :=
  iprop(ow c 8 n 0
    ∗ (bigSep (hi n) fun q => off c q iprop(dutyTok ER (cell c (.inr (0, q))) 0 0 ∗ dutyTok ER (cell q (.inr (1, c))) 0 0 ∗ ∃ f, scP q c f))
    ∗ bigSep (lo n) fun q => if q = c then pbP c q (pbF m ρ c) else cred (tallyAt (cell c (.inr (0, q))) () nXf))

theorem snd_step (c : Dev nD) (p : Fin 8) (n n' : ℕ) (hn : n = p.val) (hn' : n' = p.val + 1) {cond : BitVec 1}
    (hc : cond = 1#1 ↔ p ≠ c) {dev : cond = 1#1 → Dev nD} (hd : ∀ h, dev h = p)
    {src : Memref sig .tc .vmem S32x1024 .bf16} (hsrc : src = rM p) {dst : cond = 1#1 → Memref sig .tc .vmem S32x1024 .bf16} (hdst : ∀ h, dst h = sM c)
    {ss : DmaSem sig} {rs : cond = 1#1 → DmaSem sig} (hss : ss = jno (.inr (0, p))) (hrs : ∀ h, rs h = jno (.inr (1, c)))
    {e₁ : ∀ h, (dst h).view.ref.isScScratch = false} {e₂ : cond = 1#1 → src.view.WordExact} {e₃ : ∀ h, (dst h).view.WordExact}
    {e₄ : ∀ h, DmaTarget.Typed .vmem (.dma (rs h)) (.remote (Dev.tc (dev h) : Thread nD τ) (dst h) (.dma ss) (e₁ h))} {α : Type} (k₀ : Prog (TpuEff nD τ sig (Elt F) Λ₀ .tc) α) (Q : α → sProp 𝕄) :
    iprop(known m ρ K ∗ sndSt m ρ c n ∗ pbP c p (pbF m ρ c) ∗ (sndSt m ρ c n' -∗ WP c k₀ Q))
      ⊢ WP c (if h : cond = 1#1 then
          (do Prog.lift (.enqueueDma src (.remote (Dev.tc (dev h)) (dst h) (.dma ss) (e₁ h)) (.dma (rs h)) (e₂ h) (e₃ h) (e₄ h)); k₀)
        else k₀) Q := by
  subst hn hn'
  by_cases hp : p = c
  · subst hp
    rw [dif_neg (fun h => hc.mp h rfl)]
    unfold sndSt ow
    rw [O_snd_self, bigSep_hi, off_self, emp_sep_eq, bigSep_lo, if_pos rfl]
    iintro ⟨-, ⟨HO, Hhi, Hlo⟩, Hpb, Hk⟩
    iapply Hk
    isplitl [HO]; · iexact HO
    isplitl [Hhi]; · iexact Hhi
    isplitl [Hpb]; · iexact Hpb
    iexact Hlo
  · have h1 := hc.mpr hp
    rw [dif_pos h1]
    unfold sndSt ow
    rw [bigSep_hi, off_ne hp, bigSep_lo, if_neg hp]
    iintro ⟨#HK, ⟨⟨%W, HO⟩, ⟨⟨Ht, Ht', %f, Hsc⟩, Hhi⟩, Hlo⟩, Hpb, Hk⟩
    simp only [Prog.lift, Prog.bind_op, Prog.bind_ret]
    iapply (send_own m ρ K c p hp 0 1 (O c 8 p.val 0) (O c 8 (p.val + 1) 0) W (O_snd hp 8 0) hsrc (hdst h1) (hd h1).symm hss (hrs h1) (credit_sM c) (q := fullShare)
      (pbF m ρ c) f
      (Entails.of_eq (pbP_eq c p _).symm)
      (Entails.of_eq ((pointsTo_congr (sent_chunk m ρ hp f)).trans (scP_eq p c _).symm)) _ Q)
    isplitr; · iexact HK
    isplitl [HO]; · iexact HO
    isplitl [Hpb]; · rw [← pbP_eq]; iexact Hpb
    isplitl [Hsc]; · rw [← scP_eq]; iexact Hsc
    isplitl [Ht]; · iexact Ht
    isplitl [Ht']; · iexact Ht'
    iintro ⟨HO, Hc⟩
    iapply Hk
    isplitl [HO]; · iexists W; iexact HO
    isplitl [Hhi]; · iexact Hhi
    isplitl [Hc]; · iexact Hc
    iexact Hlo

end Cert.Fused
-- ==== Proof.Moves.lean ====
/-
# Taking what arrives, and sending the reduced rows

The local copies, the waits at the arrival semaphores, the transfers of the reduced rows, the stores and the last waits,
one lemma for each kind.
-/
module

public import proofs.«01_k».proof.Proof.Steps

@[expose] public section

set_option maxRecDepth 16384

noncomputable section

namespace Cert.Fused

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option J → ℕ)

/-- The wait at one of the transfers' semaphores. -/
theorem wait_x (c : Dev nD) (i : Fin 4) (p : Fin 8) (hp : p ≠ c) (s b : ℕ) (hs : s < 8 → lvOf (.own (.inr (i, p))) < 2)
    (hb : b < 8 → lvOf (.own (.inr (i, p))) < 3) {sem : DmaSem sig} (hsem : sem = jno (.inr (i, p))) {sp sp' : Space} {κ' : Kind} {s₁ s₂ : Shape} {e e' : EltTy}
    {src : Memref sig .tc sp' s₁ e'} {dst : Memref sig κ' sp s₂ e} {hsrc : src.view.WordExact} {hdst : dst.view.WordExact}
    (hcr : dst.view.dmaCredit = nXf) {α : Type} (k' : PUnit → Prog (TpuEff nD τ sig (Elt F) Λ₀ .tc) α) (Q : α → sProp 𝕄) :
    iprop(known m ρ K ∗ ow c 8 s b ∗ (atPos ER (cell c (.inr (i, p))) 0 ∅ 0 ∗ cred (tallyAt (cell c (.inr (i, p))) () nXf))
        ∗ ((ow c 8 s b ∗ ownPay m ρ c (.inr (i, p)) ∗ semVal (cell c (.inr (i, p))) 0) -∗ WP c (k' ⟨⟩) Q))
      ⊢ WP c (.op (.waitDma2 sem src dst hsrc hdst) k') Q := by
  iintro ⟨#HK, HO, ⟨Hat, Hcr⟩, Hk⟩
  iapply (wait_own m ρ K c (.inr (i, p)) hp 8 s b (fun h => absurd h (lt_irrefl _)) hs hb hsem hcr k' Q)
  isplitr; · iexact HK
  isplitl [HO]; · iexact HO
  isplitl [Hat]; · iexact Hat
  isplitl [Hcr]; · iexact Hcr
  iexact Hk

/-- The cell of a semaphore that is not used closes at once. -/
theorem idle_close (c : Dev nD) (k : J) (hk : ¬ used c k) :
    iprop(known m ρ K ∗ atPos ER (cell c k) 0 ∅ 0) ⊢ iprop(|={Set.univ}=> semVal (cell c k) 0) := by
  iintro ⟨#HK, Hat⟩
  ihave #HB := (known_own m ρ K c k) $$ HK
  icases HB with ⟨#HI, #HR⟩
  iapply (Rounds.cell_close ER (Rd m ρ) (Set.mem_univ (K (c, some k))) (fun h => h) (R := 0) (fun r _ => duties_idle m ρ c k hk r))
  isplitr; · iexact HI
  iexact Hat

/-! ## The copies of the key and value columns -/

theorem cp_key (c : Dev nD) {src : Memref sig .tc .hbm S1024x256 .f32} (hs : src = colM3 c) {dst : Memref sig .tc .vmem S1024x256 .f32}
    (hd : dst = kM 0) {sem : DmaSem sig} (hsem : sem = jno (.inl 0)) {e₁ : src.view.WordExact} {e₂ : dst.view.WordExact}
    {e₃ : DmaTarget.Typed (nD := nD) (τ := τ) .hbm (.dma sem) (DmaTarget.here (p := (Proc.tc : Proc τ)) dst)}
    {α : Type} (k' : PUnit → Prog (TpuEff nD τ sig (Elt F) Λ₀ .tc) α) (Q : α → sProp 𝕄) :
    iprop(known m ρ K ∗ kcolP m c ∗ (∃ f, kvP c 0 f) ∗ dutyTok ER (cell c (.inl 0)) 0 0
        ∗ (cred (tallyAt (cell c (.inl 0)) () nLd) -∗ WP c (k' ⟨⟩) Q))
      ⊢ WP c (.op (.enqueueDma src (.here dst) (.dma sem) e₁ e₂ e₃) k') Q := by
  subst hs hd hsem
  iintro ⟨#HK, Hc, ⟨%f, Hv⟩, Ht, Hk⟩
  ihave #HB := (known_own m ρ K c (.inl 0)) $$ HK
  icases HB with ⟨#HI, #HR⟩
  iapply (Rounds.wp_copy_pointsTo 𝒱₀ ER (Rd m ρ) (c : Thread nD τ) none (κ := K (c, some (.inl 0))) (r := 0) (d := (0 : Fin 8))
      (fs := m ((c : Thread nD τ).loc main_arg3)) (fd := f) (q := fullShare) (sem := .dma (jno (.inl 0)))
      (by rw [show (((c : Thread nD τ), SemLoc.dma (jno (.inl 0))) : GSem nD τ sig) = cell c (.inl 0) from rfl,
            duties_own m ρ c (.inl 0) (show (0 : Fin 3) ≠ 2 by decide)]; exact Finset.mem_singleton_self _)
      () nLd (credit_kM 0) (amount_own m ρ c (.inl 0) 0)
      (by
        refine Entails.of_eq (Eq.trans ?_ (payload_own m ρ c (.inl 0) 0).symm)
        rw [pointsTo_congr (sent_key m c f), ← kvP_eq, ← kcolP_eq]; rfl)) $$ [Hc Hv Ht]
  · isplitr; · iexact HI
    isplitl [Hc]; · rw [← kcolP_eq]; iexact Hc
    isplitl [Hv]; · rw [← kvP_eq]; iexact Hv
    isplitl [Ht]; · iexact Ht
    iexact HR
  iexact Hk

theorem cp_val (c : Dev nD) {src : Memref sig .tc .hbm S1024x256 .f32} (hs : src = colM4 c) {dst : Memref sig .tc .vmem S1024x256 .f32}
    (hd : dst = kM 1) {sem : DmaSem sig} (hsem : sem = jno (.inl 1)) {e₁ : src.view.WordExact} {e₂ : dst.view.WordExact}
    {e₃ : DmaTarget.Typed (nD := nD) (τ := τ) .hbm (.dma sem) (DmaTarget.here (p := (Proc.tc : Proc τ)) dst)}
    {α : Type} (k' : PUnit → Prog (TpuEff nD τ sig (Elt F) Λ₀ .tc) α) (Q : α → sProp 𝕄) :
    iprop(known m ρ K ∗ vcolP m c ∗ (∃ f, kvP c 1 f) ∗ dutyTok ER (cell c (.inl 1)) 0 0
        ∗ (cred (tallyAt (cell c (.inl 1)) () nLd) -∗ WP c (k' ⟨⟩) Q))
      ⊢ WP c (.op (.enqueueDma src (.here dst) (.dma sem) e₁ e₂ e₃) k') Q := by
  subst hs hd hsem
  iintro ⟨#HK, Hc, ⟨%f, Hv⟩, Ht, Hk⟩
  ihave #HB := (known_own m ρ K c (.inl 1)) $$ HK
  icases HB with ⟨#HI, #HR⟩
  iapply (Rounds.wp_copy_pointsTo 𝒱₀ ER (Rd m ρ) (c : Thread nD τ) none (κ := K (c, some (.inl 1))) (r := 0) (d := (0 : Fin 8))
      (fs := m ((c : Thread nD τ).loc main_arg4)) (fd := f) (q := fullShare) (sem := .dma (jno (.inl 1)))
      (by rw [show (((c : Thread nD τ), SemLoc.dma (jno (.inl 1))) : GSem nD τ sig) = cell c (.inl 1) from rfl,
            duties_own m ρ c (.inl 1) (show (1 : Fin 3) ≠ 2 by decide)]; exact Finset.mem_singleton_self _)
      () nLd (credit_kM 1) (amount_own m ρ c (.inl 1) 0)
      (by
        refine Entails.of_eq (Eq.trans ?_ (payload_own m ρ c (.inl 1) 0).symm)
        rw [pointsTo_congr (sent_val m c f), ← kvP_eq, ← vcolP_eq]; rfl)) $$ [Hc Hv Ht]
  · isplitr; · iexact HI
    isplitl [Hc]; · rw [← vcolP_eq]; iexact Hc
    isplitl [Hv]; · rw [← kvP_eq]; iexact Hv
    isplitl [Ht]; · iexact Ht
    iexact HR
  iexact Hk

/-! ## Taking what arrives -/

/-- Positions and credits of the arrivals still to be taken, and the pieces taken. -/
def arr (i : Fin 4) (c : Dev nD) (n : ℕ) : sProp 𝕄 :=
  iprop((bigSep (hi n) fun q => off c q iprop(atPos ER (cell c (.inr (i, q))) 0 ∅ 0 ∗ cred (tallyAt (cell c (.inr (i, q))) () nXf)))
    ∗ bigSep (lo n) fun q => off c q iprop(ownPay m ρ c (.inr (i, q)) ∗ semVal (cell c (.inr (i, q))) 0))

theorem arr_self (i : Fin 4) (c : Fin 8) : arr m ρ i c c.val = arr m ρ i c (c.val + 1) := by
  unfold arr; rw [bigSep_hi, off_self, emp_sep_eq, bigSep_lo, off_self, emp_sep_eq]
theorem arr_open (i : Fin 4) {c p : Fin 8} (h : p ≠ c) : arr m ρ i c p.val
    ⊢ iprop((atPos ER (cell c (.inr (i, p))) 0 ∅ 0 ∗ cred (tallyAt (cell c (.inr (i, p))) () nXf))
      ∗ ((ownPay m ρ c (.inr (i, p)) ∗ semVal (cell c (.inr (i, p))) 0) -∗ arr m ρ i c (p.val + 1))) := by
  unfold arr; rw [bigSep_hi, off_ne h, bigSep_lo, off_ne h]
  iintro ⟨⟨H, Hhi⟩, Hlo⟩
  isplitl [H]; · iexact H
  iintro Hp
  isplitl [Hhi]; · iexact Hhi
  isplitl [Hp]; · iexact Hp
  iexact Hlo

/-- Taking device `p`'s chunk. -/
theorem take_step (c : Dev nD) (p : Fin 8) (n n' : ℕ) (hn : n = p.val) (hn' : n' = p.val + 1) {cond : BitVec 1}
    (hc : cond = 1#1 ↔ p ≠ c) {sem : DmaSem sig} (hsem : sem = jno (.inr (1, p))) {src dst : Memref sig .tc .vmem S32x1024 .bf16}
    (hdst : dst = sM p) {e₁ : cond = 1#1 → src.view.WordExact} {e₂ : cond = 1#1 → dst.view.WordExact} {α : Type} (k₀ : Prog (TpuEff nD τ sig (Elt F) Λ₀ .tc) α) (Q : α → sProp 𝕄) :
    iprop(known m ρ K ∗ (ow c 8 8 0 ∗ arr m ρ 1 c n) ∗ ((ow c 8 8 0 ∗ arr m ρ 1 c n') -∗ WP c k₀ Q))
      ⊢ WP c (if h : cond = 1#1 then (do Prog.lift (.waitDma2 sem src dst (e₁ h) (e₂ h)); k₀) else k₀) Q := by
  subst hn hn' hdst
  by_cases hp : p = c
  · subst hp
    rw [dif_neg (fun h => hc.mp h rfl), arr_self]
    iintro ⟨-, Hst, Hk⟩
    iapply Hk; iexact Hst
  · rw [dif_pos (hc.mpr hp)]
    simp only [Prog.lift, Prog.bind_op, Prog.bind_ret]
    iintro ⟨#HK, ⟨HO, Ha⟩, Hk⟩
    ihave Ha := (arr_open m ρ 1 hp) $$ Ha
    icases Ha with ⟨Ha, Hr⟩
    iapply (wait_x m ρ K c 1 p hp 8 0 (fun h => absurd h (lt_irrefl _)) (fun _ => (by decide : (2 : ℕ) < 3)) hsem (credit_sM p) _ Q)
    isplitr; · iexact HK
    isplitl [HO]; · iexact HO
    isplitl [Ha]; · iexact Ha
    iintro ⟨HO, Hp⟩
    iapply Hk
    isplitl [HO]; · iexact HO
    iapply Hr; iexact Hp

/-! ## The transfers of the reduced rows -/

omit [FloatOps F] in
theorem bbP_eq (c : Dev nD) (p : Fin 8) (f) :
    (bbP c p f : sProp 𝕄) = iprop((Memref.whole cc0_scratch4 : Memref sig .tc .vmem S32x1024 .bf16).view.loc (c : Thread nD τ)
      ↦[(Memref.whole cc0_scratch4 : Memref sig .tc .vmem S32x1024 .bf16).view.set]{Idealize.ShloMosaic.ShareLeaves.leaf 3 fullShare p} f) := by
  unfold bbP; rw [show (Memref.whole cc0_scratch4 : Memref sig .tc .vmem S32x1024 .bf16).view.set = Finset.univ from View.set_whole _]

/-- Reduced rows before `n` are sent; for those from `n` on there are the share of the source, the tokens and the slots they go to. -/
def redSt (c : Dev nD) (n : ℕ) : sProp 𝕄 :=
  iprop(ow c 8 8 n
    ∗ (bigSep (hi n) fun q => iprop(bbP c q (bbF m ρ c)
        ∗ off c q iprop(dutyTok ER (cell c (.inr (2, q))) 0 0 ∗ dutyTok ER (cell q (.inr (3, c))) 0 0 ∗ ∃ f, bcP q c f)))
    ∗ bigSep (lo n) fun q => if q = c then bbP c q (bbF m ρ c) else cred (tallyAt (cell c (.inr (2, q))) () nXf))

theorem red_step (c : Dev nD) (p : Fin 8) (n n' : ℕ) (hn : n = p.val) (hn' : n' = p.val + 1) {cond : BitVec 1}
    (hc : cond = 1#1 ↔ p ≠ c) {dev : cond = 1#1 → Dev nD} (hd : ∀ h, dev h = p)
    {dst : cond = 1#1 → Memref sig .tc .vmem S32x1024 .bf16} (hdst : ∀ h, dst h = bM c)
    {ss : DmaSem sig} {rs : cond = 1#1 → DmaSem sig} (hss : ss = jno (.inr (2, p))) (hrs : ∀ h, rs h = jno (.inr (3, c)))
    {e₁ : ∀ h, (dst h).view.ref.isScScratch = false}
    {e₂ : cond = 1#1 → (Memref.whole cc0_scratch4 : Memref sig .tc .vmem S32x1024 .bf16).view.WordExact} {e₃ : ∀ h, (dst h).view.WordExact}
    {e₄ : ∀ h, DmaTarget.Typed .vmem (.dma (rs h)) (.remote (Dev.tc (dev h) : Thread nD τ) (dst h) (.dma ss) (e₁ h))} {α : Type} (k₀ : Prog (TpuEff nD τ sig (Elt F) Λ₀ .tc) α) (Q : α → sProp 𝕄) :
    iprop(known m ρ K ∗ redSt m ρ c n ∗ (redSt m ρ c n' -∗ WP c k₀ Q))
      ⊢ WP c (if h : cond = 1#1 then
          (do Prog.lift (.enqueueDma (Memref.whole cc0_scratch4) (.remote (Dev.tc (dev h)) (dst h) (.dma ss) (e₁ h)) (.dma (rs h)) (e₂ h) (e₃ h) (e₄ h)); k₀)
        else k₀) Q := by
  subst hn hn'
  by_cases hp : p = c
  · subst hp
    rw [dif_neg (fun h => hc.mp h rfl)]
    unfold redSt ow
    rw [O_bc_self, bigSep_hi, off_self, bigSep_lo, if_pos rfl]
    iintro ⟨-, ⟨HO, ⟨⟨Hpb, -⟩, Hhi⟩, Hlo⟩, Hk⟩
    iapply Hk
    isplitl [HO]; · iexact HO
    isplitl [Hhi]; · iexact Hhi
    isplitl [Hpb]; · iexact Hpb
    iexact Hlo
  · have h1 := hc.mpr hp
    rw [dif_pos h1]
    unfold redSt ow
    rw [bigSep_hi, off_ne hp, bigSep_lo, if_neg hp]
    iintro ⟨#HK, ⟨⟨%W, HO⟩, ⟨⟨Hpb, Ht, Ht', %f, Hsc⟩, Hhi⟩, Hlo⟩, Hk⟩
    simp only [Prog.lift, Prog.bind_op, Prog.bind_ret]
    iapply (send_own m ρ K c p hp 2 3 (O c 8 8 p.val) (O c 8 8 (p.val + 1)) W (O_bc hp 8 8) (src := Memref.whole cc0_scratch4) rfl (hdst h1) (hd h1).symm hss (hrs h1)
      (credit_bM c) (q := Idealize.ShloMosaic.ShareLeaves.leaf 3 fullShare p)
      (bbF m ρ c) f
      (Entails.of_eq (bbP_eq c p _).symm)
      (Entails.of_eq ((pointsTo_congr (sent_red m ρ f)).trans (bcP_eq p c _).symm)) _ Q)
    isplitr; · iexact HK
    isplitl [HO]; · iexact HO
    isplitl [Hpb]; · rw [← bbP_eq]; iexact Hpb
    isplitl [Hsc]; · rw [← bcP_eq]; iexact Hsc
    isplitl [Ht]; · iexact Ht
    isplitl [Ht']; · iexact Ht'
    iintro ⟨HO, Hc⟩
    iapply Hk
    isplitl [HO]; · iexists W; iexact HO
    isplitl [Hhi]; · iexact Hhi
    isplitl [Hc]; · iexact Hc
    iexact Hlo

/-! ## Stores by rows -/

omit [FloatOps F] in
/-- A store over the elements of row block `p` adds that block to those where the buffer agrees with `g`. -/
theorem wrote {κ : Kind} {sp : Space} {s : Shape} {e : EltTy} {v : View sig κ sp s e} {f g : BufTy.Contents (Elt F) v.ty}
    {w : s.Idx → Elt F e} {row : v.ty.Idx → Fin 8} {p : Fin 8} {D : Finset (Fin 8)} (h₁ : ∀ i, row i = p → i ∈ v.set)
    (h₂ : ∀ y, row (v.emb y) = p) (hf : ∀ i, row i ∈ D → f i = g i) (hw : ∀ y, v.write (Elt F) f w Finset.univ (v.emb y) = g (v.emb y)) :
    ∀ i, row i ∈ insert p D → v.write (Elt F) f w Finset.univ i = g i := fun i hi => by
  by_cases hp : row i = p
  · obtain ⟨y, -, rfl⟩ := Finset.mem_map.mp (h₁ i hp)
    exact hw y
  · rw [View.write_of_not_mem _ _ _ (fun h => by
      obtain ⟨y, -, rfl⟩ := Finset.mem_map.mp h
      exact hp (h₂ y))]
    exact hf i ((Finset.mem_insert.mp hi).resolve_left hp)

theorem row_split (i : Fin 256) : ∃ h, (⟨32 * (rowDiv i).val + (rowMod i).val, h⟩ : Fin 256) = i :=
  ⟨by show 32 * (i.val / 32) + i.val % 32 < 256; have := i.isLt; omega, Fin.ext (Nat.div_add_mod i.val 32)⟩

theorem mem_rowR (i : S256x1024.Idx) : i ∈ (rowR (rowDiv (i 0))).set := by
  rw [← Rect.map_emb_univ]
  refine Finset.mem_map.mpr ⟨ix2 (rowMod (i 0)) (i 1 : Fin 1024), Finset.mem_univ _, ?_⟩
  obtain ⟨h, hi⟩ := row_split (i 0)
  exact (emb_rowR _ _).trans ((congrArg (fun r : Fin 256 => ix2 r (i 1 : Fin 1024)) hi).trans (eq_ix2 i).symm)

/-- The output's staging buffer as the body names it, without its leading axis. -/
abbrev oM : Memref sig .tc .vmem S256x1024 .f32 :=
  ((Memref.whole cc0_stg3_0).slice (Rect.unit (s := S1x256x1024) ![0, 0, 0] S1x256x1024.size inb_S1x256x1024_S1x256x1024_0_0_0) (fun _ => rfl)).squeeze
    S256x1024 squeezes_S1x256x1024_S256x1024

theorem emb_oM (y : S256x1024.Idx) : oM.view.emb y = ix3 (0 : Fin 1) (y 0 : Fin 256) (y 1 : Fin 1024) := by
  show (Rect.unit (s := S1x256x1024) ![0, 0, 0] S1x256x1024.size inb_S1x256x1024_S1x256x1024_0_0_0).emb
    (Shape.reshapeEquiv squeezes_S1x256x1024_S256x1024.numel_eq y) = _
  rw [Shape.reshapeEquiv_cons_one]
  funext a; apply Fin.ext
  match a with
  | ⟨0, _⟩ => rfl
  | ⟨1, _⟩ => show 0 + 1 * (y 0).val = (y 0).val; omega
  | ⟨2, _⟩ => show 0 + 1 * (y 1).val = (y 1).val; omega

theorem mem_oM (i : S1x256x1024.Idx) : i ∈ (oM.access (rowR (rowDiv (i 1)))).set := by
  obtain ⟨h, hi⟩ := row_split (i 1)
  refine Finset.mem_map.mpr ⟨ix2 (rowMod (i 1)) (i 2 : Fin 1024), Finset.mem_univ _, ?_⟩
  refine (congrArg oM.view.emb (emb_rowR (rowDiv (i 1)) _)).trans ((emb_oM _).trans (Eq.trans ?_ (eq_ix3 i).symm))
  exact (congrArg (fun r : Fin 256 => ix3 (0 : Fin 1) r (i 2 : Fin 1024)) hi).trans
    (congrArg (fun z : Fin 1 => ix3 z (i 1 : Fin 256) (i 2 : Fin 1024)) (Subsingleton.elim (0 : Fin 1) (i 0)))

/-! ## The chunks' stores -/

/-- The partial product's buffer, right on the rows of `D`. -/
def p32St (c : Dev nD) (D : Finset (Fin 8)) : sProp 𝕄 :=
  iprop(∃ f : Buf (Elt F) ((c : Thread nD τ).loc cc0_scratch1), ⌜∀ i : S256x1024.Idx, rowDiv (i 0) ∈ D → f i = p32F m ρ c i⌝ ∗ Pt cc0_scratch1 c f)

theorem st32_step (c : Dev nD) (p : Fin 8) (D : Finset (Fin 8)) (o : ℕ) (ho : o = 32 * p.val) {inb}
    {w : FVec F S32x1024 .f32} (hw : w = chunkF (attnV m ρ c) (woV m ρ c) p)
    {hl hx hm} {α : Type} (k' : PUnit → Prog (TpuEff nD τ sig (Elt F) Λ₀ .tc) α) (Q : α → sProp 𝕄) :
    iprop(p32St m ρ c D ∗ (p32St m ρ c (insert p D) -∗ WP c (k' ⟨⟩) Q))
      ⊢ WP c (.op (.load (Memref.whole cc0_scratch1 : Memref sig .tc .vmem S256x1024 .f32) (Rect.unit (s := S256x1024) ![o, 0] S32x1024.size inb).toLoadRect hl)
          fun _ => .op (.store (Memref.whole cc0_scratch1 : Memref sig .tc .vmem S256x1024 .f32) (Rect.unit (s := S256x1024) ![o, 0] S32x1024.size inb) w Finset.univ hx hm) k') Q := by
  subst ho hw
  unfold p32St
  iintro ⟨⟨%f, %hf, H⟩, Hk⟩
  iapply (wp_load_rect 𝒱₀ (c : Thread nD τ) none Set.univ (m := (Memref.whole cc0_scratch1 : Memref sig .tc .vmem S256x1024 .f32)) (r := rowR p) (Finset.subset_univ _)) $$ H
  iintro H
  iapply (wp_store 𝒱₀ (c : Thread nD τ) none Set.univ (m := (Memref.whole cc0_scratch1 : Memref sig .tc .vmem S256x1024 .f32)) (r := rowR p) (Finset.subset_univ _)) $$ H
  iintro H
  iapply Hk
  iexists _
  isplitr
  swap
  · iexact H
  ipureintro
  refine wrote (v := ((Memref.whole cc0_scratch1 : Memref sig .tc .vmem S256x1024 .f32).access (rowR p)))
    (row := fun i : S256x1024.Idx => rowDiv (i 0)) (fun i hi => ?_) (fun y => ?_) hf (fun y => ?_)
  · rw [View.set_slice_whole, ← hi]; exact mem_rowR i
  · exact (congrArg (fun i : S256x1024.Idx => rowDiv (i 0)) (emb_rowR p y)).trans (rowDiv_row p (y 0) _)
  · refine (View.write_emb_of_mem _ _ (Finset.mem_univ _)).trans ?_
    exact (p32F_row m ρ c p y).symm

/-- The rows from `n` on of the rounded product's buffer, at whatever they hold. -/
def pbSt (c : Dev nD) (n : ℕ) : sProp 𝕄 := bigSep (hi n) fun q => iprop(∃ f, pbP (F := F) c q f)

theorem stb_step (c : Dev nD) (p : Fin 8) (n n' : ℕ) (hn : n = p.val) (hn' : n' = p.val + 1) (o : ℕ) (ho : o = 32 * p.val) {inb}
    {w : FVec F S32x1024 .bf16} (hw : w = chunkB (attnV m ρ c) (woV m ρ c) p)
    {hl hx hm} {α : Type} (k' : PUnit → Prog (TpuEff nD τ sig (Elt F) Λ₀ .tc) α) (Q : α → sProp 𝕄) :
    iprop(pbSt (F := F) c n ∗ (pbSt (F := F) c n' -∗ pbP c p (pbF m ρ c) -∗ WP c (k' ⟨⟩) Q))
      ⊢ WP c (.op (.load (Memref.whole cc0_scratch2 : Memref sig .tc .vmem S256x1024 .bf16) (Rect.unit (s := S256x1024) ![o, 0] S32x1024.size inb).toLoadRect hl)
          fun _ => .op (.store (Memref.whole cc0_scratch2 : Memref sig .tc .vmem S256x1024 .bf16) (Rect.unit (s := S256x1024) ![o, 0] S32x1024.size inb) w Finset.univ hx hm) k') Q := by
  subst ho hw hn hn'
  unfold pbSt
  rw [bigSep_hi]
  unfold pbP
  iintro ⟨⟨⟨%f, H⟩, Hr⟩, Hk⟩
  iapply (wp_load_rect 𝒱₀ (c : Thread nD τ) none Set.univ (m := (Memref.whole cc0_scratch2 : Memref sig .tc .vmem S256x1024 .bf16)) (r := rowR p)
    (S := (rowR p).set) (View.set_slice_whole cc0_scratch2 (rowR p)).subset) $$ H
  iintro H
  iapply (wp_store 𝒱₀ (c : Thread nD τ) none Set.univ (m := (Memref.whole cc0_scratch2 : Memref sig .tc .vmem S256x1024 .bf16)) (r := rowR p)
    (S := (rowR p).set) (View.set_slice_whole cc0_scratch2 (rowR p)).subset) $$ H
  iintro H
  iapply Hk $$ [Hr]
  · iexact Hr
  iapply (Entails.of_eq (pointsTo_congr (g := pbF m ρ c) ?_)) $$ H
  rw [← View.set_slice_whole cc0_scratch2 (rowR p)]
  refine landed (v := ((Memref.whole cc0_scratch2 : Memref sig .tc .vmem S256x1024 .bf16).access (rowR p))) fun y => ?_
  refine (View.write_emb_of_mem _ _ (Finset.mem_univ _)).trans ?_
  exact (pbF_row m ρ c p y).symm

/-! ## The reduced rows' arrivals, stored in the output -/

/-- The output's buffer, right on the rows of `D`. -/
def outSt (c : Dev nD) (D : Finset (Fin 8)) : sProp 𝕄 :=
  iprop(∃ f : Buf (Elt F) ((c : Thread nD τ).loc cc0_stg3_0), ⌜∀ i : S1x256x1024.Idx, rowDiv (i 1) ∈ D → f i = outF m ρ c i⌝ ∗ Pt cc0_stg3_0 c f)

/-- A load and a store of 32 rows of the output. -/
theorem out_step (c : Dev nD) (p : Fin 8) (D : Finset (Fin 8)) {off : Fin 2 → ℕ} (ho : off = ![32 * p.val, 0]) {inb}
    {w : FVec F S32x1024 .f32} (hw : ∀ y : S32x1024.Idx, w y = outF m ρ c (ix3 (0 : Fin 1) ((rowR p).emb y 0 : Fin 256) ((rowR p).emb y 1 : Fin 1024)))
    {hl hx hm} {α : Type} (k' : PUnit → Prog (TpuEff nD τ sig (Elt F) Λ₀ .tc) α) (Q : α → sProp 𝕄) :
    iprop(outSt m ρ c D ∗ (outSt m ρ c (insert p D) -∗ WP c (k' ⟨⟩) Q))
      ⊢ WP c (.op (.load oM (Rect.unit (s := S256x1024) off S32x1024.size inb).toLoadRect hl)
          fun _ => .op (.store oM (Rect.unit (s := S256x1024) off S32x1024.size inb) w Finset.univ hx hm) k') Q := by
  subst ho
  unfold outSt
  iintro ⟨⟨%f, %hf, H⟩, Hk⟩
  iapply (wp_load_rect 𝒱₀ (c : Thread nD τ) none Set.univ (m := oM) (r := rowR p) (Finset.subset_univ _)) $$ H
  iintro H
  iapply (wp_store 𝒱₀ (c : Thread nD τ) none Set.univ (m := oM) (r := rowR p) (Finset.subset_univ _)) $$ H
  iintro H
  iapply Hk
  iexists _
  isplitr
  swap
  · iexact H
  ipureintro
  refine wrote (v := oM.access (rowR p)) (row := fun i : S1x256x1024.Idx => rowDiv (i 1)) (fun i hi => ?_) (fun y => ?_) hf (fun y => ?_)
  · rw [← hi]; exact mem_oM i
  · exact (congrArg (fun i : S1x256x1024.Idx => rowDiv (i 1)) (emb_oM ((rowR p).emb y))).trans
      ((congrArg (fun i : S256x1024.Idx => rowDiv (i 0)) (emb_rowR p y)).trans (rowDiv_row p (y 0) _))
  · refine (View.write_emb_of_mem _ _ (Finset.mem_univ _)).trans ((hw y).trans ?_)
    exact congrArg (outF m ρ c) (emb_oM ((rowR p).emb y)).symm

theorem outF_own (c : Fin 8) (y : S32x1024.Idx) :
    redF m ρ c y = outF m ρ c (ix3 (0 : Fin 1) ((rowR c).emb y 0 : Fin 256) ((rowR c).emb y 1 : Fin 1024)) := by
  rw [emb_rowR]
  refine Eq.trans ?_ (if_pos (congrArg Fin.val (rowDiv_row c (y 0) _))).symm
  refine congrArg (redF m ρ c) ((eq_ix2 y).trans ?_)
  exact congrArg (fun r : Fin 32 => ix2 r (y 1 : Fin 1024)) (rowMod_row c (y 0) _).symm
theorem outF_other {c p : Fin 8} (h : p ≠ c) (y : S32x1024.Idx) :
    k0_pay52 (bcV m ρ c p) y = outF m ρ c (ix3 (0 : Fin 1) ((rowR p).emb y 0 : Fin 256) ((rowR p).emb y 1 : Fin 1024)) := by
  rw [emb_rowR]
  refine Eq.trans ?_ (if_neg (fun h' => h (Fin.ext ((congrArg Fin.val (rowDiv_row p (y 0) _)).symm.trans h')))).symm
  show _ = k0_pay52 (bcV m ρ c (rowDiv ⟨32 * p.val + (y 0).val, _⟩)) (ix2 (rowMod ⟨32 * p.val + (y 0).val, _⟩) (y 1 : Fin 1024))
  rw [rowDiv_row p (y 0), rowMod_row p (y 0)]; exact congrArg _ (eq_ix2 y)

/-- Taking device `p`'s reduced rows, and storing them. -/
def fillSt (c : Dev nD) (n : ℕ) : sProp 𝕄 := iprop(ow c 8 8 8 ∗ arr m ρ 3 c n ∗ outSt m ρ c (insert c (lo n)))

theorem fill_step (c : Dev nD) (p : Fin 8) (n n' : ℕ) (hn : n = p.val) (hn' : n' = p.val + 1) {cond : BitVec 1}
    (hc : cond = 1#1 ↔ p ≠ c) {sem : DmaSem sig} (hsem : sem = jno (.inr (3, p))) {src dst : Memref sig .tc .vmem S32x1024 .bf16}
    (hdst : dst = bM p) (o j : ℕ) (ho : o = 32 * p.val) (hj : j = p.val) {inb inb'} {pay : Vec F S1x32x1024 .bf16 → FVec F S32x1024 .f32} (hpay : pay = k0_pay52)
    {e₁ : cond = 1#1 → src.view.WordExact} {e₂ : cond = 1#1 → dst.view.WordExact} {e₃ : cond = 1#1 → _} {e₄ : cond = 1#1 → _} {e₅ : cond = 1#1 → _} {e₆ : cond = 1#1 → _} {α : Type} (k₀ : Prog (TpuEff nD τ sig (Elt F) Λ₀ .tc) α) (Q : α → sProp 𝕄) :
    iprop(known m ρ K ∗ fillSt m ρ c n ∗ (fillSt m ρ c n' -∗ WP c k₀ Q))
      ⊢ WP c (if h : cond = 1#1 then (do
          Prog.lift (.waitDma2 sem src dst (e₁ h) (e₂ h))
          let v ← Prog.lift (.load (Memref.whole cc0_scratch5 : Memref sig .tc .vmem S8x32x1024 .bf16) (Rect.unit (s := S8x32x1024) ![j, 0, 0] S1x32x1024.size inb).toLoadRect (e₃ h))
          let _ ← Prog.lift (.load oM (Rect.unit (s := S256x1024) ![o, 0] S32x1024.size inb').toLoadRect (e₄ h))
          Prog.lift (.store oM (Rect.unit (s := S256x1024) ![o, 0] S32x1024.size inb') (pay v) Finset.univ (e₅ h) (e₆ h))
          k₀) else k₀) Q := by
  subst hn hn' hdst ho hj hpay
  by_cases hp : p = c
  · subst hp
    rw [dif_neg (fun h => hc.mp h rfl)]
    unfold fillSt
    rw [arr_self, (lo_step p).1, Finset.insert_idem]
    iintro ⟨-, Hst, Hk⟩
    iapply Hk; iexact Hst
  · rw [dif_pos (hc.mpr hp)]
    simp only [Prog.lift, Prog.bind_op, Prog.bind_ret]
    unfold fillSt
    iintro ⟨#HK, ⟨HO, Ha, Hout⟩, Hk⟩
    ihave Ha := (arr_open m ρ 3 hp) $$ Ha
    icases Ha with ⟨Ha, Hr⟩
    iapply (wait_x m ρ K c 3 p hp 8 8 (fun h => absurd h (lt_irrefl _)) (fun h => absurd h (lt_irrefl _)) hsem (credit_bM p) _ Q)
    isplitr; · iexact HK
    isplitl [HO]; · iexact HO
    isplitl [Ha]; · iexact Ha
    iintro ⟨HO, Hp, Hz⟩
    ihave Hp := (Entails.of_eq (show ownPay m ρ c (.inr (3, p)) = iprop(((c : Thread nD τ).loc cc0_scratch5) ↦[(slotR p).set]{fullShare} (bcF m ρ c)) from rfl)) $$ Hp
    iapply (wp_load_rect 𝒱₀ (c : Thread nD τ) none Set.univ (m := (Memref.whole cc0_scratch5 : Memref sig .tc .vmem S8x32x1024 .bf16)) (r := slotR p)
      (S := (slotR p).set) (View.set_slice_whole cc0_scratch5 (slotR p)).subset) $$ Hp
    iintro Hp
    iapply (out_step m ρ c p (insert c (lo p.val)) rfl (outF_other m ρ hp) _ Q)
    isplitl [Hout]; · iexact Hout
    iintro Hout
    iapply Hk
    isplitl [HO]; · iexact HO
    isplitl [Hr Hp Hz]
    · iapply Hr
      isplitl [Hp]
      · rw [show ownPay m ρ c (.inr (3, p)) = iprop(((c : Thread nD τ).loc cc0_scratch5) ↦[(slotR p).set]{fullShare} (bcF m ρ c)) from rfl]; iexact Hp
      iexact Hz
    rw [(lo_step p).1, Finset.insert_comm]; iexact Hout

/-! ## The send semaphores' last waits -/

omit [FloatOps F] in
theorem sep_emp_eq (A : sProp 𝕄) : iprop(A ∗ emp) = A := Entails.antisymm (sep_emp (PROP := sProp 𝕄)).1 (sep_emp (PROP := sProp 𝕄)).2

/-- The waits before `n` have given their pieces back. -/
def drSt (c : Dev nD) (n : ℕ) : sProp 𝕄 :=
  iprop(ow c 8 8 8
    ∗ (bigSep (hi n) fun q => if q = c then iprop(pbP c q (pbF m ρ c) ∗ bbP c q (bbF m ρ c)) else
        iprop((atPos ER (cell c (.inr (0, q))) 0 ∅ 0 ∗ cred (tallyAt (cell c (.inr (0, q))) () nXf))
          ∗ (atPos ER (cell c (.inr (2, q))) 0 ∅ 0 ∗ cred (tallyAt (cell c (.inr (2, q))) () nXf))))
    ∗ bigSep (lo n) fun q => iprop((pbP c q (pbF m ρ c) ∗ bbP c q (bbF m ρ c))
        ∗ off c q iprop(semVal (cell c (.inr (0, q))) 0 ∗ semVal (cell c (.inr (2, q))) 0)))

theorem drain_step (c : Dev nD) (p : Fin 8) (n n' : ℕ) (hn : n = p.val) (hn' : n' = p.val + 1) {cond : BitVec 1}
    (hc : cond = 1#1 ↔ p ≠ c) {sem sem' : DmaSem sig} (hsem : sem = jno (.inr (0, p))) (hsem' : sem' = jno (.inr (2, p)))
    {src src' : cond = 1#1 → Memref sig .tc .vmem S32x1024 .bf16} {dst : Memref sig .tc .vmem S32x1024 .bf16}
    (hdst : dst = rM p) {e₁ : ∀ h, (src h).view.WordExact} {e₂ : cond = 1#1 → dst.view.WordExact} {e₃ : ∀ h, (src' h).view.WordExact}
    {e₄ : cond = 1#1 → (Memref.whole cc0_scratch4 : Memref sig .tc .vmem S32x1024 .bf16).view.WordExact} {α : Type} (k₀ : Prog (TpuEff nD τ sig (Elt F) Λ₀ .tc) α) (Q : α → sProp 𝕄) :
    iprop(known m ρ K ∗ drSt m ρ c n ∗ (drSt m ρ c n' -∗ WP c k₀ Q))
      ⊢ WP c (if h : cond = 1#1 then (do
          Prog.lift (.waitDma2 sem (src h) dst (e₁ h) (e₂ h))
          Prog.lift (.waitDma2 sem' (src' h) (Memref.whole cc0_scratch4 : Memref sig .tc .vmem S32x1024 .bf16) (e₃ h) (e₄ h))
          k₀) else k₀) Q := by
  subst hn hn' hdst
  unfold drSt
  rw [bigSep_hi, bigSep_lo]
  by_cases hp : p = c
  · subst hp
    rw [dif_neg (fun h => hc.mp h rfl), if_pos rfl, off_self, sep_emp_eq]
    iintro ⟨-, ⟨HO, ⟨Hp, Hhi⟩, Hlo⟩, Hk⟩
    iapply Hk
    isplitl [HO]; · iexact HO
    isplitl [Hhi]; · iexact Hhi
    isplitl [Hp]; · iexact Hp
    iexact Hlo
  · rw [dif_pos (hc.mpr hp), if_neg hp, off_ne hp]
    simp only [Prog.lift, Prog.bind_op, Prog.bind_ret]
    iintro ⟨#HK, ⟨HO, ⟨⟨Ha, Hb⟩, Hhi⟩, Hlo⟩, Hk⟩
    iapply (wait_x m ρ K c 0 p hp 8 8 (fun h => absurd h (lt_irrefl _)) (fun h => absurd h (lt_irrefl _)) hsem (credit_rM p) _ Q)
    isplitr; · iexact HK
    isplitl [HO]; · iexact HO
    isplitl [Ha]; · iexact Ha
    iintro ⟨HO, Ha, Hza⟩
    iapply (wait_x m ρ K c 2 p hp 8 8 (fun h => absurd h (lt_irrefl _)) (fun h => absurd h (lt_irrefl _)) hsem' credit_bb _ Q)
    isplitr; · iexact HK
    isplitl [HO]; · iexact HO
    isplitl [Hb]; · iexact Hb
    iintro ⟨HO, Hb, Hzb⟩
    iapply Hk
    isplitl [HO]; · iexact HO
    isplitl [Hhi]; · iexact Hhi
    isplitr [Hlo]
    · isplitl [Ha Hb]
      · isplitl [Ha]; · rw [show pbP c p (pbF m ρ c) = ownPay m ρ c (.inr (0, p)) from rfl]; iexact Ha
        rw [show bbP c p (bbF m ρ c) = ownPay m ρ c (.inr (2, p)) from rfl]; iexact Hb
      isplitl [Hza]; · iexact Hza
      iexact Hzb
    iexact Hlo

end Cert.Fused
-- ==== Proof.Pieces.lean ====
/-
# The buffers and their pieces

The views and semaphores as the body names them; the families over the devices, the device itself set apart; and each
buffer as the pieces the transfers move.
-/
module

public import proofs.«01_k».proof.Proof.Moves

@[expose] public section

set_option maxRecDepth 16384

noncomputable section

namespace Cert.Fused

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The views and semaphores as the body names them, at a device's own offsets -/

theorem sM_of {j : Fin 8} {off : Fin 3 → ℕ} (h : off = ![j.val, 0, 0]) {inb hr} :
    ((Memref.whole cc0_scratch3 : Memref sig .tc .vmem S8x32x1024 .bf16).slice (Rect.unit (s := S8x32x1024) off S1x32x1024.size inb) hr).squeeze
      S32x1024 squeezes_S1x32x1024_S32x1024 = sM j := by subst h; rfl
theorem bM_of {j : Fin 8} {off : Fin 3 → ℕ} (h : off = ![j.val, 0, 0]) {inb hr} :
    ((Memref.whole cc0_scratch5 : Memref sig .tc .vmem S8x32x1024 .bf16).slice (Rect.unit (s := S8x32x1024) off S1x32x1024.size inb) hr).squeeze
      S32x1024 squeezes_S1x32x1024_S32x1024 = bM j := by subst h; rfl
theorem colM3_of {c : Dev nD} {off : Fin 2 → ℕ} (h : off = ![0, 256 * c.val]) {inb hr} :
    (Memref.whole main_arg3 : Memref sig .tc .hbm S1024x2048 .f32).slice (Rect.unit (s := S1024x2048) off S1024x256.size inb) hr = colM3 c := by subst h; rfl
theorem colM4_of {c : Dev nD} {off : Fin 2 → ℕ} (h : off = ![0, 256 * c.val]) {inb hr} :
    (Memref.whole main_arg4 : Memref sig .tc .hbm S1024x2048 .f32).slice (Rect.unit (s := S1024x2048) off S1024x256.size inb) hr = colM4 c := by subst h; rfl
theorem arrive_of {c : Fin 8} {off : Fin 1 → ℕ} (h : off = ![c.val]) {inb} :
    ((cc0_scratch8.slice (Rect.unit (s := S8) off S1.size inb)).squeeze S_ squeezes_S1_S_).sem = jno (.inr (1, c)) := by
  subst h; revert c; decide
theorem arrive'_of {c : Fin 8} {off : Fin 1 → ℕ} (h : off = ![c.val]) {inb} :
    ((cc0_scratch10.slice (Rect.unit (s := S8) off S1.size inb)).squeeze S_ squeezes_S1_S_).sem = jno (.inr (3, c)) := by
  subst h; revert c; decide

/-! ## Families over the devices, with the device itself apart -/

omit [FloatOps F] in
theorem erase_off (c : Fin 8) (Φ : Fin 8 → sProp 𝕄) : bigSep (Finset.univ.erase c) Φ = bigSep Finset.univ fun q => off c q (Φ q) := by
  rw [show bigSep Finset.univ (fun q => off c q (Φ q)) = iprop(off c c (Φ c) ∗ bigSep (Finset.univ.erase c) fun q => off c q (Φ q))
    from bigSep_erase (Finset.mem_univ c), off_self, emp_sep_eq]
  exact bigSep_congr fun q hq => (off_ne (Finset.ne_of_mem_erase hq) _).symm
omit [FloatOps F] in
theorem split_own (c : Fin 8) (Φ : Fin 8 → sProp 𝕄) : bigSep Finset.univ Φ = iprop(Φ c ∗ bigSep Finset.univ fun q => off c q (Φ q)) := by
  rw [← erase_off]; exact bigSep_erase (Finset.mem_univ c)
omit [FloatOps F] in
theorem off_sep (c q : Fin 8) (A B : sProp 𝕄) : off c q iprop(A ∗ B) = iprop(off c q A ∗ off c q B) := by
  by_cases h : q = c
  · subst h; rw [off_self, off_self, off_self, emp_sep_eq]
  · rw [off_ne h, off_ne h, off_ne h]
omit [FloatOps F] in
theorem offs_sep (c : Fin 8) (A B : Fin 8 → sProp 𝕄) : (bigSep Finset.univ fun q => off c q iprop(A q ∗ B q))
    = iprop((bigSep Finset.univ fun q => off c q (A q)) ∗ bigSep Finset.univ fun q => off c q (B q)) := by
  rw [show (fun q => off c q iprop(A q ∗ B q)) = fun q => iprop(off c q (A q) ∗ off c q (B q)) from funext fun q => off_sep c q _ _]
  exact bigSep_sep' _ _ _
omit [FloatOps F] in
theorem hi_all (Φ : Fin 8 → sProp 𝕄) : bigSep (hi 0) Φ = bigSep Finset.univ Φ := by rw [hi_zero]
omit [FloatOps F] in
theorem lo_all (Φ : Fin 8 → sProp 𝕄) : bigSep (lo 8) Φ = bigSep Finset.univ Φ := by rw [lo_end]
omit [FloatOps F] in
theorem hi_none (Φ : Fin 8 → sProp 𝕄) : bigSep (hi 8) Φ = iprop(emp) := by rw [hi_end]; exact bigSep_empty
omit [FloatOps F] in
theorem lo_none (Φ : Fin 8 → sProp 𝕄) : bigSep (lo 0) Φ = iprop(emp) := by rw [lo_zero]; exact bigSep_empty

/-! ## A buffer and its pieces -/

theorem slotR_disjoint (p q : Fin 8) (h : p ≠ q) : Disjoint (slotR p).set (slotR q).set := by
  rw [← Rect.map_emb_univ, ← Rect.map_emb_univ, Finset.disjoint_left]
  intro i hi hj
  obtain ⟨y, -, rfl⟩ := Finset.mem_map.mp hi
  obtain ⟨z, -, hz⟩ := Finset.mem_map.mp hj
  have h0 := congrArg (fun i : S8x32x1024.Idx => (i 0 : Fin 8)) ((emb_slotR q z).symm.trans (hz.trans (emb_slotR p y)))
  exact h h0.symm
theorem slotR_cover : (Finset.univ : Finset (Fin 8)).biUnion (fun j => (slotR j).set) = Finset.univ := by
  refine Finset.eq_univ_iff_forall.mpr fun i => Finset.mem_biUnion.mpr ⟨(i 0 : Fin 8), Finset.mem_univ _, ?_⟩
  rw [← Rect.map_emb_univ]
  exact Finset.mem_map.mpr ⟨ix3 (0 : Fin 1) (i 1 : Fin 32) (i 2 : Fin 1024), Finset.mem_univ _, (emb_slotR _ _).trans (eq_ix3 i).symm⟩
theorem rowR_disjoint (p q : Fin 8) (h : p ≠ q) : Disjoint (rowR p).set (rowR q).set := by
  rw [← Rect.map_emb_univ, ← Rect.map_emb_univ, Finset.disjoint_left]
  intro i hi hj
  obtain ⟨y, -, rfl⟩ := Finset.mem_map.mp hi
  obtain ⟨z, -, hz⟩ := Finset.mem_map.mp hj
  have h0 := congrArg (fun i : S256x1024.Idx => rowDiv (i 0)) ((emb_rowR q z).symm.trans (hz.trans (emb_rowR p y)))
  exact h ((rowDiv_row p (y 0) _).symm.trans (h0.symm.trans (rowDiv_row q (z 0) _)))
theorem rowR_cover : (Finset.univ : Finset (Fin 8)).biUnion (fun j => (rowR j).set) = Finset.univ :=
  Finset.eq_univ_iff_forall.mpr fun i => Finset.mem_biUnion.mpr ⟨rowDiv (i 0), Finset.mem_univ _, mem_rowR i⟩
theorem kvR_disjoint (p q : Fin 2) (h : p ≠ q) : Disjoint (kvR p).set (kvR q).set := by
  rw [← Rect.map_emb_univ, ← Rect.map_emb_univ, Finset.disjoint_left]
  intro i hi hj
  obtain ⟨y, -, rfl⟩ := Finset.mem_map.mp hi
  obtain ⟨z, -, hz⟩ := Finset.mem_map.mp hj
  have h0 := congrArg (fun i : S2x1024x256.Idx => (i 0 : Fin 2)) ((emb_kvR q z).symm.trans (hz.trans (emb_kvR p y)))
  exact h h0.symm
theorem kvR_cover : (Finset.univ : Finset (Fin 2)).biUnion (fun j => (kvR j).set) = Finset.univ := by
  refine Finset.eq_univ_iff_forall.mpr fun i => Finset.mem_biUnion.mpr ⟨(i 0 : Fin 2), Finset.mem_univ _, ?_⟩
  rw [← Rect.map_emb_univ]
  exact Finset.mem_map.mpr ⟨ix3 (0 : Fin 1) (i 1 : Fin 1024) (i 2 : Fin 256), Finset.mem_univ _, (emb_kvR _ _).trans (eq_ix3 i).symm⟩

omit [FloatOps F] in
theorem kv_whole (c : Dev nD) (f) : (Pt cc0_scratch0 c f : sProp 𝕄) = iprop(kvP c 0 f ∗ kvP c 1 f) := by
  have h := pointsTo_biUnion (Ix := Unit) (Name := ℕ) (U := UU) (Lvl := ℕ) (ℓ := (c : Thread nD τ).loc cc0_scratch0) (q := fullShare) (f := f) Finset.univ (fun j : Fin 2 => (kvR j).set) (fun p _ q _ => kvR_disjoint p q)
  rw [show (Finset.univ : Finset (Fin 2)).biUnion (fun j => (kvR j).set) = Finset.univ from kvR_cover] at h
  refine h.trans ?_
  rw [show (Finset.univ : Finset (Fin 2)) = insert 0 {1} from rfl, bigSep_insert (by decide), bigSep_singleton]; rfl
omit [FloatOps F] in
theorem pb_whole (c : Dev nD) (f) : (Pt cc0_scratch2 c f : sProp 𝕄) = bigSep Finset.univ fun p => pbP c p f := by
  have h := pointsTo_biUnion (Ix := Unit) (Name := ℕ) (U := UU) (Lvl := ℕ) (ℓ := (c : Thread nD τ).loc cc0_scratch2) (q := fullShare) (f := f) Finset.univ (fun j : Fin 8 => (rowR j).set) (fun p _ q _ => rowR_disjoint p q)
  rw [show (Finset.univ : Finset (Fin 8)).biUnion (fun j => (rowR j).set) = Finset.univ from rowR_cover] at h
  exact h
omit [FloatOps F] in
theorem sc_whole (c : Dev nD) (f) : (Pt cc0_scratch3 c f : sProp 𝕄) = bigSep Finset.univ fun p => scP c p f := by
  have h := pointsTo_biUnion (Ix := Unit) (Name := ℕ) (U := UU) (Lvl := ℕ) (ℓ := (c : Thread nD τ).loc cc0_scratch3) (q := fullShare) (f := f) Finset.univ (fun j : Fin 8 => (slotR j).set) (fun p _ q _ => slotR_disjoint p q)
  rw [show (Finset.univ : Finset (Fin 8)).biUnion (fun j => (slotR j).set) = Finset.univ from slotR_cover] at h
  exact h
omit [FloatOps F] in
theorem bc_whole (c : Dev nD) (f) : (Pt cc0_scratch5 c f : sProp 𝕄) = bigSep Finset.univ fun p => bcP c p f := by
  have h := pointsTo_biUnion (Ix := Unit) (Name := ℕ) (U := UU) (Lvl := ℕ) (ℓ := (c : Thread nD τ).loc cc0_scratch5) (q := fullShare) (f := f) Finset.univ (fun j : Fin 8 => (slotR j).set) (fun p _ q _ => slotR_disjoint p q)
  rw [show (Finset.univ : Finset (Fin 8)).biUnion (fun j => (slotR j).set) = Finset.univ from slotR_cover] at h
  exact h
omit [FloatOps F] in
theorem bb_whole (c : Dev nD) (f) : (Pt cc0_scratch4 c f : sProp 𝕄) = bigSep Finset.univ fun p => bbP c p f :=
  Idealize.ShloMosaic.ShareLeaves.pointsTo_leaves Finset.univ f 3 fullShare
omit [FloatOps F] in
/-- The gathered reduced rows' buffer again, its own slot at whatever it held. -/
theorem bc_join (c : Dev nD) (f g) : iprop(bcP c c f ∗ bigSep Finset.univ fun q => off c q (bcP c q g)) ⊢ (iprop(∃ f, Pt cc0_scratch5 c f) : sProp 𝕄) := by
  have h := pointsTo_biUnion_join (Ix := Unit) (Name := ℕ) (U := UU) (Lvl := ℕ) (ℓ := (c : Thread nD τ).loc cc0_scratch5) (q := fullShare) Finset.univ (fun j : Fin 8 => (slotR j).set)
    (fun q : Fin 8 => if q = c then f else g) g (fun p _ q _ => slotR_disjoint p q)
  rw [show (Finset.univ : Finset (Fin 8)).biUnion (fun j => (slotR j).set) = Finset.univ from slotR_cover] at h
  rw [split_own c] at h
  iintro ⟨Hc, Ho⟩
  ihave H := (show iprop(bcP c c f ∗ bigSep Finset.univ fun q => off c q (bcP c q g)) ⊢ _ from by
    refine BIBase.Entails.trans (Entails.of_eq ?_) h
    congr 1
    · unfold bcP; rw [if_pos rfl]
    · refine bigSep_congr fun q _ => ?_
      by_cases hq : q = c
      · subst hq; rw [off_self, off_self]
      · rw [off_ne hq, off_ne hq]; unfold bcP; rw [if_neg hq]) $$ [Hc Ho]
  · isplitl [Hc]; · iexact Hc
    iexact Ho
  icases H with ⟨%g', -, H⟩
  iexists g'; iexact H

omit [FloatOps F] in
/-- A family of things each at some contents. -/
theorem exist_pieces {Φ : (q : Fin 8) → sProp 𝕄} {S : Finset (Fin 8)} {Ψ : Fin 8 → sProp 𝕄} (h : ∀ q, Φ q ⊢ Ψ q) : bigSep S Φ ⊢ bigSep S Ψ :=
  bigSep_mono fun q _ => h q

end Cert.Fused
-- ==== Proof.Access.lean ====
/-
# Loads and stores of the blocks
-/
module

public import proofs.«01_k».proof.Proof.Pieces

@[expose] public section

set_option maxRecDepth 16384

noncomputable section

namespace Cert.Fused

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option J → ℕ)

/-- The device's number as the body computes it. -/
abbrev v2W (c : Dev nD) : BitVec 32 := Scalar.remsi (Scalar.divsi (Dev.word c) 1#32) 8#32

/-- The condition "the device is not number `w`", as the body computes it. -/
abbrev neW (c : Dev nD) (w : BitVec 32) : BitVec 1 := Scalar.cmpi .ne (Scalar.extui (Scalar.cmpi .ne (v2W c) w)) 0#32

/-! ## Loads, and the load and store of a block -/

/-- A load from a buffer held, in part or whole, by any share. -/
theorem wp_get (c : Dev nD) {cs : CoreSpace} {s : Shape} {e : EltTy} {M : Memref sig .tc cs s e} {r : Rect s} {hl : M.view.LoadsAt r.toLoadRect}
    {S : Finset (Idx ((M.access r).loc (c : Thread nD τ)))} {q : PosShare TreeShare} {f : Buf (Elt F) ((M.access r).loc (c : Thread nD τ))}
    (hS : (M.access r).set ⊆ S) (v : r.shape.Idx → Elt F e) (hv : (M.access r).read (Elt F) f = v) {α : Type}
    (k : (r.shape.Idx → Elt F e) → Prog (TpuEff nD τ sig (Elt F) Λ₀ .tc) α) (Q : α → sProp 𝕄) :
    iprop(((M.access r).loc (c : Thread nD τ) ↦[S]{q} f) ∗ (((M.access r).loc (c : Thread nD τ) ↦[S]{q} f) -∗ WP c (k v) Q))
      ⊢ WP c (do let x ← Prog.lift (.load M r.toLoadRect hl); k x) Q := by
  subst hv
  refine BIBase.Entails.trans ?_ (wp_lift c)
  exact Idealize.SL.BI.BIBase.Entails.trans (sep_mono_left (wp_load_rect 𝒱₀ (c : Thread nD τ) none Set.univ (m := M) (r := r) (hl := hl) (k := k) (Q := Q) hS)) wand_elim_left

theorem st32_do (c : Dev nD) (p : Fin 8) (n n' : ℕ) (hn : n = p.val) (hn' : n' = p.val + 1) (o : ℕ) (ho : o = 32 * p.val) {inb}
    {w : FVec F S32x1024 .f32} (hw : w = chunkF (attnV m ρ c) (woV m ρ c) p)
    {hl hx hm} {α : Type} (k₀ : Prog (TpuEff nD τ sig (Elt F) Λ₀ .tc) α) (Q : α → sProp 𝕄) :
    iprop(p32St m ρ c (lo n) ∗ (p32St m ρ c (lo n') -∗ WP c k₀ Q))
      ⊢ WP c (do
          let _ ← Prog.lift (.load (Memref.whole cc0_scratch1 : Memref sig .tc .vmem S256x1024 .f32) (Rect.unit (s := S256x1024) ![o, 0] S32x1024.size inb).toLoadRect hl)
          Prog.lift (.store (Memref.whole cc0_scratch1 : Memref sig .tc .vmem S256x1024 .f32) (Rect.unit (s := S256x1024) ![o, 0] S32x1024.size inb) w Finset.univ hx hm)
          k₀) Q := by
  subst hn hn'
  rw [(lo_step p).1]
  exact st32_step m ρ c p (lo p.val) o ho hw (hl := hl) (hx := hx) (hm := hm) (fun _ => k₀) Q

theorem stb_do (c : Dev nD) (p : Fin 8) (n n' : ℕ) (hn : n = p.val) (hn' : n' = p.val + 1) (o : ℕ) (ho : o = 32 * p.val) {inb}
    {w : FVec F S32x1024 .bf16} (hw : w = chunkB (attnV m ρ c) (woV m ρ c) p)
    {hl hx hm} {α : Type} (k₀ : Prog (TpuEff nD τ sig (Elt F) Λ₀ .tc) α) (Q : α → sProp 𝕄) :
    iprop(pbSt (F := F) c n ∗ (pbSt (F := F) c n' -∗ pbP c p (pbF m ρ c) -∗ WP c k₀ Q))
      ⊢ WP c (do
          let _ ← Prog.lift (.load (Memref.whole cc0_scratch2 : Memref sig .tc .vmem S256x1024 .bf16) (Rect.unit (s := S256x1024) ![o, 0] S32x1024.size inb).toLoadRect hl)
          Prog.lift (.store (Memref.whole cc0_scratch2 : Memref sig .tc .vmem S256x1024 .bf16) (Rect.unit (s := S256x1024) ![o, 0] S32x1024.size inb) w Finset.univ hx hm)
          k₀) Q :=
  stb_step m ρ c p n n' hn hn' o ho hw (hl := hl) (hx := hx) (hm := hm) (fun _ => k₀) Q

theorem out_do (c : Dev nD) (p : Fin 8) (D : Finset (Fin 8)) {off : Fin 2 → ℕ} (ho : off = ![32 * p.val, 0]) {inb}
    {w : FVec F S32x1024 .f32} (hw : ∀ y : S32x1024.Idx, w y = outF m ρ c (ix3 (0 : Fin 1) ((rowR p).emb y 0 : Fin 256) ((rowR p).emb y 1 : Fin 1024)))
    {hl hx hm} {α : Type} (k₀ : Prog (TpuEff nD τ sig (Elt F) Λ₀ .tc) α) (Q : α → sProp 𝕄) :
    iprop(outSt m ρ c D ∗ (outSt m ρ c (insert p D) -∗ WP c k₀ Q))
      ⊢ WP c (do
          let _ ← Prog.lift (.load oM (Rect.unit (s := S256x1024) off S32x1024.size inb).toLoadRect hl)
          Prog.lift (.store oM (Rect.unit (s := S256x1024) off S32x1024.size inb) w Finset.univ hx hm)
          k₀) Q :=
  out_step m ρ c p D ho hw (hl := hl) (hx := hx) (hm := hm) (fun _ => k₀) Q

/-- A load of the input. -/
theorem x_get (c : Dev nD) {inb hl} {α : Type} (k : Vec F S1x256x1024 .f32 → Prog (TpuEff nD τ sig (Elt F) Λ₀ .tc) α) (Q : α → sProp 𝕄) :
    iprop(Pt cc0_stg0_0 c (xstg m ρ c) ∗ (Pt cc0_stg0_0 c (xstg m ρ c) -∗ WP c (k (xstg m ρ c)) Q))
      ⊢ WP c (do
          let x ← Prog.lift (.load (Memref.whole cc0_stg0_0 : Memref sig .tc .vmem S1x256x1024 .f32) (Rect.unit (s := S1x256x1024) ![0, 0, 0] S1x256x1024.size inb).toLoadRect hl)
          k x) Q :=
  wp_get c (M := (Memref.whole cc0_stg0_0 : Memref sig .tc .vmem S1x256x1024 .f32)) (r := Rect.unit (s := S1x256x1024) ![0, 0, 0] S1x256x1024.size inb)
    (Finset.subset_univ _) (xstg m ρ c) (Memref.readAt_unit_zero (Elt F) cc0_stg0_0 (off := ![0, 0, 0]) (by decide) inb _) k Q

/-- A load of the query weights. -/
theorem wq_get (c : Dev nD) {inb hl} {α : Type} (k : Vec F S1024x1024 .f32 → Prog (TpuEff nD τ sig (Elt F) Λ₀ .tc) α) (Q : α → sProp 𝕄) :
    iprop(Pt cc0_stg1_0 c (wqstg m ρ c) ∗ (Pt cc0_stg1_0 c (wqstg m ρ c) -∗ WP c (k (wqstg m ρ c)) Q))
      ⊢ WP c (do
          let x ← Prog.lift (.load (Memref.whole cc0_stg1_0 : Memref sig .tc .vmem S1024x1024 .f32) (Rect.unit (s := S1024x1024) ![0, 0] S1024x1024.size inb).toLoadRect hl)
          k x) Q :=
  wp_get c (M := (Memref.whole cc0_stg1_0 : Memref sig .tc .vmem S1024x1024 .f32)) (r := Rect.unit (s := S1024x1024) ![0, 0] S1024x1024.size inb)
    (Finset.subset_univ _) (wqstg m ρ c) (Memref.readAt_unit_zero (Elt F) cc0_stg1_0 (off := ![0, 0]) (by decide) inb _) k Q

/-- A load of the output weights. -/
theorem wo_get (c : Dev nD) {inb hl} {α : Type} (k : Vec F S1024x1024 .f32 → Prog (TpuEff nD τ sig (Elt F) Λ₀ .tc) α) (Q : α → sProp 𝕄) :
    iprop(Pt cc0_stg2_0 c (wostg m ρ c) ∗ (Pt cc0_stg2_0 c (wostg m ρ c) -∗ WP c (k (wostg m ρ c)) Q))
      ⊢ WP c (do
          let x ← Prog.lift (.load (Memref.whole cc0_stg2_0 : Memref sig .tc .vmem S1024x1024 .f32) (Rect.unit (s := S1024x1024) ![0, 0] S1024x1024.size inb).toLoadRect hl)
          k x) Q :=
  wp_get c (M := (Memref.whole cc0_stg2_0 : Memref sig .tc .vmem S1024x1024 .f32)) (r := Rect.unit (s := S1024x1024) ![0, 0] S1024x1024.size inb)
    (Finset.subset_univ _) (wostg m ρ c) (Memref.readAt_unit_zero (Elt F) cc0_stg2_0 (off := ![0, 0]) (by decide) inb _) k Q

/-- A load of half `i` of the key and value staging buffer. -/
theorem kv_get (c : Dev nD) (i : Fin 2) (o : ℕ) (ho : o = i.val) {inb hl} {α : Type}
    (k : Vec F S1x1024x256 .f32 → Prog (TpuEff nD τ sig (Elt F) Λ₀ .tc) α) (Q : α → sProp 𝕄) :
    iprop(kvP c i (kvF m c) ∗ (kvP c i (kvF m c) -∗ WP c (k (kvV m c i)) Q))
      ⊢ WP c (do
          let x ← Prog.lift (.load (Memref.whole cc0_scratch0 : Memref sig .tc .vmem S2x1024x256 .f32) (Rect.unit (s := S2x1024x256) ![o, 0, 0] S1x1024x256.size inb).toLoadRect hl)
          k x) Q := by
  subst ho
  unfold kvP
  exact wp_get c (M := (Memref.whole cc0_scratch0 : Memref sig .tc .vmem S2x1024x256 .f32)) (r := kvR i)
    (View.set_slice_whole cc0_scratch0 (kvR i)).subset (kvV m c i) rfl k Q

/-- A load of slot `j` of the gathered chunks. -/
theorem sc_get (c : Dev nD) (j : Fin 8) (o : ℕ) (ho : o = j.val) {inb hl} {α : Type}
    (k : Vec F S1x32x1024 .bf16 → Prog (TpuEff nD τ sig (Elt F) Λ₀ .tc) α) (Q : α → sProp 𝕄) :
    iprop(Pt cc0_scratch3 c (scF m ρ c) ∗ (Pt cc0_scratch3 c (scF m ρ c) -∗ WP c (k (scV m ρ c j)) Q))
      ⊢ WP c (do
          let x ← Prog.lift (.load (Memref.whole cc0_scratch3 : Memref sig .tc .vmem S8x32x1024 .bf16) (Rect.unit (s := S8x32x1024) ![o, 0, 0] S1x32x1024.size inb).toLoadRect hl)
          k x) Q := by
  subst ho
  exact wp_get c (M := (Memref.whole cc0_scratch3 : Memref sig .tc .vmem S8x32x1024 .bf16)) (r := slotR j)
    (Finset.subset_univ _) (scV m ρ c j) rfl k Q

/-- A load of a device's own rows of its partial product. -/
theorem own_get (c : Dev nD) {off : Fin 2 → ℕ} (ho : off = ![32 * c.val, 0]) {inb hl} {α : Type}
    (k : Vec F S32x1024 .f32 → Prog (TpuEff nD τ sig (Elt F) Λ₀ .tc) α) (Q : α → sProp 𝕄) :
    iprop(Pt cc0_scratch1 c (p32F m ρ c) ∗ (Pt cc0_scratch1 c (p32F m ρ c) -∗ WP c (k (ownV m ρ c)) Q))
      ⊢ WP c (do
          let x ← Prog.lift (.load (Memref.whole cc0_scratch1 : Memref sig .tc .vmem S256x1024 .f32) (Rect.unit (s := S256x1024) off S32x1024.size inb).toLoadRect hl)
          k x) Q := by
  subst ho
  exact wp_get c (M := (Memref.whole cc0_scratch1 : Memref sig .tc .vmem S256x1024 .f32)) (r := rowR c)
    (Finset.subset_univ _) (ownV m ρ c) rfl k Q

/-- All the partial product's rows stored, the buffer holds it. -/
theorem p32_all (c : Dev nD) : p32St m ρ c Finset.univ ⊢ Pt cc0_scratch1 c (p32F m ρ c) := by
  unfold p32St
  iintro ⟨%f, %hf, H⟩
  rw [show f = p32F m ρ c from funext fun i => hf i (Finset.mem_univ _)]
  iexact H

/-- All the output's rows stored, the window holds the result. -/
theorem out_all (c : Dev nD) : outSt m ρ c Finset.univ ⊢ Pt cc0_stg3_0 c (outF m ρ c) := by
  unfold outSt
  iintro ⟨%f, %hf, H⟩
  rw [show f = outF m ρ c from funext fun i => hf i (Finset.mem_univ _)]
  iexact H

theorem own_key (c : Dev nD) : ownPay m ρ c (.inl 0) = iprop(kvP c 0 (kvF m c) ∗ kcolP m c) := rfl
theorem own_val (c : Dev nD) : ownPay m ρ c (.inl 1) = iprop(kvP c 1 (kvF m c) ∗ vcolP m c) := rfl

/-- The zeros stored in the device's own slot of the gathered chunks. -/
theorem zero_do (c : Dev nD) {off : Fin 3 → ℕ} (ho : off = ![c.val, 0, 0]) {inb} {hl hx hm} {α : Type} (k₀ : Prog (TpuEff nD τ sig (Elt F) Λ₀ .tc) α) (Q : α → sProp 𝕄) :
    iprop((∃ f, scP (F := F) c c f) ∗ (scP c c (scF m ρ c) -∗ WP c k₀ Q))
      ⊢ WP c (do
          let _ ← Prog.lift (.load (Memref.whole cc0_scratch3 : Memref sig .tc .vmem S8x32x1024 .bf16) (Rect.unit (s := S8x32x1024) off S1x32x1024.size inb).toLoadRect hl)
          Prog.lift (.store (Memref.whole cc0_scratch3 : Memref sig .tc .vmem S8x32x1024 .bf16) (Rect.unit (s := S8x32x1024) off S1x32x1024.size inb) (k0_pay47 (F := F)) Finset.univ hx hm)
          k₀) Q := by
  subst ho
  unfold scP
  simp only [Prog.lift, Prog.bind_op, Prog.bind_ret]
  iintro ⟨⟨%f, H⟩, Hk⟩
  iapply (wp_load_rect 𝒱₀ (c : Thread nD τ) none Set.univ (m := (Memref.whole cc0_scratch3 : Memref sig .tc .vmem S8x32x1024 .bf16)) (r := slotR c)
    (S := (slotR c).set) (View.set_slice_whole cc0_scratch3 (slotR c)).subset) $$ H
  iintro H
  iapply (wp_store 𝒱₀ (c : Thread nD τ) none Set.univ (m := (Memref.whole cc0_scratch3 : Memref sig .tc .vmem S8x32x1024 .bf16)) (r := slotR c)
    (S := (slotR c).set) (View.set_slice_whole cc0_scratch3 (slotR c)).subset) $$ H
  iintro H
  iapply Hk
  iapply (Entails.of_eq (pointsTo_congr (g := scF m ρ c) ?_)) $$ H
  rw [← View.set_slice_whole cc0_scratch3 (slotR c)]
  refine landed (v := ((Memref.whole cc0_scratch3 : Memref sig .tc .vmem S8x32x1024 .bf16).access (slotR c))) fun y => ?_
  refine (View.write_emb_of_mem _ _ (Finset.mem_univ _)).trans ?_
  have h0 : y 0 = (0 : Fin 1) := Subsingleton.elim (α := Fin 1) _ _
  refine Eq.trans ?_ (congrArg (scF m ρ c) (emb_slotR c y)).symm
  refine Eq.trans ?_ (scF_own m ρ c (y 1) (y 2)).symm
  exact congrArg (k0_pay47 (F := F)) (((eq_ix3 y).trans (congrArg (fun a : Fin 1 => ix3 a (y 1 : Fin 32) (y 2 : Fin 1024)) h0)))

/-- The rounded reduced rows stored for sending. -/
theorem bb_do (c : Dev nD) {inb} {w : FVec F S32x1024 .bf16} (hw : w = redB m ρ c) {hl hx hm} {α : Type} (k₀ : Prog (TpuEff nD τ sig (Elt F) Λ₀ .tc) α) (Q : α → sProp 𝕄) :
    iprop((∃ f, Pt (F := F) cc0_scratch4 c f) ∗ (Pt cc0_scratch4 c (bbF m ρ c) -∗ WP c k₀ Q))
      ⊢ WP c (do
          let _ ← Prog.lift (.load (Memref.whole cc0_scratch4 : Memref sig .tc .vmem S32x1024 .bf16) (Rect.unit (s := S32x1024) ![0, 0] S32x1024.size inb).toLoadRect hl)
          Prog.lift (.store (Memref.whole cc0_scratch4 : Memref sig .tc .vmem S32x1024 .bf16) (Rect.unit (s := S32x1024) ![0, 0] S32x1024.size inb) w Finset.univ hx hm)
          k₀) Q := by
  subst hw
  simp only [Prog.lift, Prog.bind_op, Prog.bind_ret]
  iintro ⟨⟨%f, H⟩, Hk⟩
  iapply (wp_load_rect 𝒱₀ (c : Thread nD τ) none Set.univ (m := (Memref.whole cc0_scratch4 : Memref sig .tc .vmem S32x1024 .bf16))
    (r := Rect.unit (s := S32x1024) ![0, 0] S32x1024.size inb) (Finset.subset_univ _)) $$ H
  iintro H
  iapply (wp_store 𝒱₀ (c : Thread nD τ) none Set.univ (m := (Memref.whole cc0_scratch4 : Memref sig .tc .vmem S32x1024 .bf16))
    (r := Rect.unit (s := S32x1024) ![0, 0] S32x1024.size inb) (Finset.subset_univ _)) $$ H
  iintro H
  iapply Hk
  iapply (Entails.of_eq (congrArg (fun g => (Pt cc0_scratch4 c g : sProp 𝕄))
    (Memref.write_access_unit_zero_univ (Elt F) cc0_scratch4 (off := ![0, 0]) (by decide) inb f (redB m ρ c)))) $$ H

/-! ## Between the phases -/

/-- All arrivals taken, the gathered chunks' buffer is whole. -/
theorem gathered (c : Dev nD) : iprop(scP c c (scF m ρ c) ∗ arr m ρ 1 c 8)
    ⊢ iprop(Pt cc0_scratch3 c (scF m ρ c) ∗ bigSep Finset.univ fun q => off c q (semVal (cell c (.inr (1, q))) 0)) := by
  unfold arr
  rw [hi_none, emp_sep_eq, lo_all, offs_sep, sc_whole, split_own c (fun p => scP c p (scF m ρ c))]
  iintro ⟨Hc, Ho, Hs⟩
  isplitr [Hs]
  · isplitl [Hc]; · iexact Hc
    iexact Ho
  · iexact Hs

/-- The reduced rows, a share of them for each device, with what sending them takes. -/
theorem red_start (c : Dev nD) : iprop(ow c 8 8 0 ∗ Pt cc0_scratch4 c (bbF m ρ c)
    ∗ bigSep Finset.univ fun q => off c q iprop(dutyTok ER (cell c (.inr (2, q))) 0 0 ∗ dutyTok ER (cell q (.inr (3, c))) 0 0 ∗ ∃ f, bcP (F := F) q c f))
    ⊢ redSt m ρ c 0 := by
  unfold redSt
  rw [lo_none, hi_all, bigSep_sep', bb_whole, sep_emp_eq]

theorem fill_start (c : Dev nD) : iprop(ow c 8 8 8 ∗ arr m ρ 3 c 0 ∗ outSt m ρ c (insert c ∅)) ⊢ fillSt m ρ c 0 := by
  unfold fillSt; rw [lo_zero]

/-- What waiting for the sends takes, for each device. -/
def drains (c : Dev nD) : sProp 𝕄 := bigSep Finset.univ fun q : Fin 8 =>
  if q = c then iprop(pbP c q (pbF m ρ c) ∗ bbP c q (bbF m ρ c)) else
    iprop((atPos ER (cell c (.inr (0, q))) 0 ∅ 0 ∗ cred (tallyAt (cell c (.inr (0, q))) () nXf))
      ∗ (atPos ER (cell c (.inr (2, q))) 0 ∅ 0 ∗ cred (tallyAt (cell c (.inr (2, q))) () nXf)))

theorem drain_start (c : Dev nD) : iprop(ow c 8 8 8 ∗ drains m ρ c) ⊢ drSt m ρ c 0 := by
  unfold drSt drains; rw [lo_none, hi_all, sep_emp_eq]

end Cert.Fused
-- ==== Proof.BodyA.lean ====
/-
# The body, up to the barrier
-/
module

public import proofs.«01_k».proof.Proof.Access

@[expose] public section

set_option maxRecDepth 16384

noncomputable section

namespace Cert.Fused

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option J → ℕ)

/-- The copies of the key and value columns start and the first four barriers are signalled. -/
theorem part1_spec (c : Dev nD) (Q) :
    iprop(known m ρ K ∗ sigSt (F := F) c 0 ∗ kcolP m c ∗ vcolP m c ∗ (∃ f, kvP (F := F) c 0 f) ∗ (∃ f, kvP (F := F) c 1 f)
        ∗ dutyTok ER (cell c (.inl 0)) 0 0 ∗ dutyTok ER (cell c (.inl 1)) 0 0
        ∗ ((sigSt (F := F) c 4 ∗ cred (tallyAt (cell c (.inl 0)) () nLd) ∗ cred (tallyAt (cell c (.inl 1)) () nLd))
            -∗ Q ⟨c, v2W c, Scalar.muli 32#32 (v2W c), SemArray.scalar (sig.barrier 0 rfl), 4#32⟩))
      ⊢ WP c (k0_part1 (F := F) (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10) Q := by
  rw [k0_part1_eq_skeleton]
  unfold k0_part1_skel
  iintro ⟨#HK, Hsig, Hk, Hv, Hk0, Hk1, Ht0, Ht1, Hcont⟩
  iapply (wp_dev c)
  iapply (wp_lift c)
  iapply (cp_key m ρ K c (colM3_of (k0_off1_eq c)) rfl rfl _ Q)
  isplitr; · iexact HK
  isplitl [Hk]; · iexact Hk
  isplitl [Hk0]; · iexact Hk0
  isplitl [Ht0]; · iexact Ht0
  iintro Hc0
  iapply (wp_lift c)
  iapply (cp_val m ρ K c (colM4_of (k0_off1_eq c)) rfl rfl _ Q)
  isplitr; · iexact HK
  isplitl [Hv]; · iexact Hv
  isplitl [Hk1]; · iexact Hk1
  isplitl [Ht1]; · iexact Ht1
  iintro Hc1
  iapply (sig_step m ρ K c 0 0 1 rfl rfl ((by decide : ∀ c, k0_cond1 c = 1#1 ↔ (0 : Fin 8) ≠ c) c) (fun _ => rfl) _ Q)
  isplitr; · iexact HK
  isplitl [Hsig]; · iexact Hsig
  iintro Hsig
  iapply (sig_step m ρ K c 1 1 2 rfl rfl ((by decide : ∀ c, k0_cond2 c = 1#1 ↔ (1 : Fin 8) ≠ c) c) (fun _ => rfl) _ Q)
  isplitr; · iexact HK
  isplitl [Hsig]; · iexact Hsig
  iintro Hsig
  iapply (sig_step m ρ K c 2 2 3 rfl rfl ((by decide : ∀ c, k0_cond3 c = 1#1 ↔ (2 : Fin 8) ≠ c) c) (fun _ => rfl) _ Q)
  isplitr; · iexact HK
  isplitl [Hsig]; · iexact Hsig
  iintro Hsig
  iapply (sig_step m ρ K c 3 3 4 rfl rfl ((by decide : ∀ c, k0_cond4 c = 1#1 ↔ (3 : Fin 8) ≠ c) c) (fun _ => rfl) _ Q)
  isplitr; · iexact HK
  isplitl [Hsig]; · iexact Hsig
  iintro Hsig
  iapply (wp_done c _ Q)
  iapply Hcont
  isplitl [Hsig]; · iexact Hsig
  isplitl [Hc0]; · iexact Hc0
  iexact Hc1

/-- The last four barriers are signalled, the input and the query weights are read, and the two copies arrive. -/
theorem part2_spec (c : Dev nD) (Q) :
    iprop(known m ρ K ∗ sigSt (F := F) c 4 ∗ Pt cc0_stg0_0 c (xstg m ρ c) ∗ Pt cc0_stg1_0 c (wqstg m ρ c)
        ∗ atPos ER (cell c (.inl 0)) 0 ∅ 0 ∗ atPos ER (cell c (.inl 1)) 0 ∅ 0
        ∗ cred (tallyAt (cell c (.inl 0)) () nLd) ∗ cred (tallyAt (cell c (.inl 1)) () nLd)
        ∗ ((ow c 8 0 0 ∗ Pt cc0_stg0_0 c (xstg m ρ c) ∗ Pt cc0_stg1_0 c (wqstg m ρ c) ∗ kvP c 0 (kvF m c) ∗ kvP c 1 (kvF m c)
            ∗ kcolP m c ∗ vcolP m c ∗ semVal (cell c (.inl 0)) 0 ∗ semVal (cell c (.inl 1)) 0)
            -∗ Q ⟨k0_pay1 (xstg m ρ c), k0_pay2 (xstg m ρ c) (wqstg m ρ c)⟩))
      ⊢ WP c (k0_part2 (F := F) (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c (v2W c) (SemArray.scalar (sig.barrier 0 rfl)) 4#32) Q := by
  rw [k0_part2_eq_skeleton]
  unfold k0_part2_skel
  iintro ⟨#HK, Hsig, Hx, Hw, Ha0, Ha1, Hc0, Hc1, Hcont⟩
  iapply (sig_step m ρ K c 4 4 5 rfl rfl ((by decide : ∀ c, k0_cond5 c = 1#1 ↔ (4 : Fin 8) ≠ c) c) (fun _ => rfl) _ Q)
  isplitr; · iexact HK
  isplitl [Hsig]; · iexact Hsig
  iintro Hsig
  iapply (sig_step m ρ K c 5 5 6 rfl rfl ((by decide : ∀ c, k0_cond6 c = 1#1 ↔ (5 : Fin 8) ≠ c) c) (fun _ => rfl) _ Q)
  isplitr; · iexact HK
  isplitl [Hsig]; · iexact Hsig
  iintro Hsig
  iapply (sig_step m ρ K c 6 6 7 rfl rfl ((by decide : ∀ c, k0_cond7 c = 1#1 ↔ (6 : Fin 8) ≠ c) c) (fun _ => rfl) _ Q)
  isplitr; · iexact HK
  isplitl [Hsig]; · iexact Hsig
  iintro Hsig
  iapply (sig_step m ρ K c 7 7 8 rfl rfl ((by decide : ∀ c, k0_cond8 c = 1#1 ↔ (7 : Fin 8) ≠ c) c) (fun _ => rfl) _ Q)
  isplitr; · iexact HK
  isplitl [Hsig]; · iexact Hsig
  iintro Hsig
  unfold sigSt
  icases Hsig with ⟨HO, -⟩
  iapply (x_get m ρ c _ Q)
  isplitl [Hx]; · iexact Hx
  iintro Hx
  iapply (wq_get m ρ c _ Q)
  isplitl [Hw]; · iexact Hw
  iintro Hw
  iapply (wp_lift c)
  iapply (wait_own m ρ K c (.inl 0) (show (0 : Fin 3) ≠ 2 by decide) 8 0 0 (fun h => absurd h (lt_irrefl _)) (fun _ => (by decide : (0 : ℕ) < 2))
    (fun _ => (by decide : (0 : ℕ) < 3)) rfl (credit_kM 0) _ Q)
  isplitr; · iexact HK
  isplitl [HO]; · iexact HO
  isplitl [Ha0]; · iexact Ha0
  isplitl [Hc0]; · iexact Hc0
  iintro ⟨HO, Hk, Hs0⟩
  iapply (wp_lift c)
  iapply (wait_own m ρ K c (.inl 1) (show (1 : Fin 3) ≠ 2 by decide) 8 0 0 (fun h => absurd h (lt_irrefl _)) (fun _ => (by decide : (0 : ℕ) < 2))
    (fun _ => (by decide : (0 : ℕ) < 3)) rfl (credit_kM 1) _ Q)
  isplitr; · iexact HK
  isplitl [HO]; · iexact HO
  isplitl [Ha1]; · iexact Ha1
  isplitl [Hc1]; · iexact Hc1
  iintro ⟨HO, Hv, Hs1⟩
  ihave Hk := (Entails.of_eq (own_key m ρ c)) $$ Hk
  ihave Hv := (Entails.of_eq (own_val m ρ c)) $$ Hv
  icases Hk with ⟨Hk, Hkc⟩
  icases Hv with ⟨Hv, Hvc⟩
  iapply (wp_done c _ Q)
  iapply Hcont
  isplitl [HO]; · iexact HO
  isplitl [Hx]; · iexact Hx
  isplitl [Hw]; · iexact Hw
  isplitl [Hk]; · iexact Hk
  isplitl [Hv]; · iexact Hv
  isplitl [Hkc]; · iexact Hkc
  isplitl [Hvc]; · iexact Hvc
  isplitl [Hs0]; · iexact Hs0
  iexact Hs1

/-- The keys and the values are read. -/
theorem part3_spec (c : Dev nD) (v43 : FVec F S256x1024 .bf16) (v47 : FVec F S256x1024 .f32) (Q) :
    iprop((kvP c 0 (kvF m c) ∗ kvP c 1 (kvF m c))
        ∗ ((kvP c 0 (kvF m c) ∗ kvP c 1 (kvF m c))
            -∗ Q ⟨k0_pay3 v43 (kvV m c 0), k0_pay4 v43 (kvV m c 1), k0_pay5 v43 v47 (kvV m c 0) (kvV m c 1), k0_pay6 v43 (kvV m c 1),
                k0_pay8 v43 v47 (kvV m c 0), k0_pay9 v43 v47 (kvV m c 0)⟩))
      ⊢ WP c (k0_part3 (F := F) (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 v43 v47) Q := by
  rw [k0_part3_eq_skeleton]
  unfold k0_part3_skel
  iintro ⟨⟨Hk, Hv⟩, Hcont⟩
  iapply (kv_get m c 0 0 rfl _ Q)
  isplitl [Hk]; · iexact Hk
  iintro Hk
  iapply (kv_get m c 1 1 rfl _ Q)
  isplitl [Hv]; · iexact Hv
  iintro Hv
  iapply (wp_done c _ Q)
  iapply Hcont
  isplitl [Hk]; · iexact Hk
  iexact Hv

theorem part4_spec (c : Dev nD) (v47 v61 v65 v91 v101 v102) (Q) :
    Q ⟨k0_pay10 v91 v101 v102, k0_pay11 v47 v61 v65, k0_pay12 v47 v61 v65, k0_pay13 v47, k0_pay14 v61, k0_pay15 v65⟩
      ⊢ WP c (k0_part4 (F := F) (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 v47 v61 v65 v91 v101 v102) Q := by
  rw [k0_part4_eq_skeleton]
  exact wp_done c _ Q

theorem part5_spec (c : Dev nD) (v47 v61 v65 v147 v149 v151) (Q) :
    Q ⟨k0_pay16 v147 v149 v151, k0_pay17 v47 v61 v65, k0_pay18 v65, k0_pay19 v47 v61⟩
      ⊢ WP c (k0_part5 (F := F) (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 v47 v61 v65 v147 v149 v151) Q := by
  rw [k0_part5_eq_skeleton]
  exact wp_done c _ Q

/-- The output weights are read, the barrier passed, and chunk 0 stored. -/
theorem part6_spec (c : Dev nD) (v47 v61 v65 v85 v105 v125 v145 v165 v185 v191 v198)
    (ha : k0_pay20 v47 v61 v65 v85 v105 v125 v145 v165 v185 v191 v198 = attnV m ρ c) (Q) :
    iprop(known m ρ K ∗ ow c 8 0 0 ∗ Pt cc0_stg2_0 c (wostg m ρ c) ∗ atPos ER (barCell c) 0 ∅ 0 ∗ cred (tallyAt (barCell c) () 7)
        ∗ p32St m ρ c (lo 0) ∗ pbSt (F := F) c 0
        ∗ ((ow c 8 0 0 ∗ Pt cc0_stg2_0 c (wostg m ρ c) ∗ (bigSep (Finset.univ.erase c) fun d => givePay (F := F) c d) ∗ semVal (barCell c) 0
            ∗ p32St m ρ c (lo 1) ∗ pbSt (F := F) c 1 ∗ pbP c 0 (pbF m ρ c)) -∗ Q ⟨attnV m ρ c, woV m ρ c⟩))
      ⊢ WP c (k0_part6 (F := F) (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 (SemArray.scalar (sig.barrier 0 rfl)) v47 v61 v65 v85 v105 v125 v145 v165 v185 v191 v198) Q := by
  rw [k0_part6_eq_skeleton]
  unfold k0_part6_skel
  iintro ⟨#HK, HO, Hw, Ha, Hc, Hp32, Hpb, Hcont⟩
  iapply (wo_get m ρ c _ Q)
  isplitl [Hw]; · iexact Hw
  iintro Hw
  iapply (wp_lift c (e := .semWait barS (7#32 : BitVec 32).toInt))
  iapply (wait_bar m ρ K c _ Q)
  isplitr; · iexact HK
  isplitl [HO]; · iexact HO
  isplitl [Ha]; · iexact Ha
  isplitl [Hc]; · iexact Hc
  iintro ⟨HO, Hgive, Hs⟩
  iapply (st32_do m ρ c 0 0 1 rfl rfl 0 rfl (by rw [← ha]; rfl) _ Q)
  isplitl [Hp32]; · iexact Hp32
  iintro Hp32
  iapply (stb_do m ρ c 0 0 1 rfl rfl 0 rfl (by rw [← ha]; rfl) _ Q)
  isplitl [Hpb]; · iexact Hpb
  iintro Hpb Hp
  rw [ha]
  iapply (wp_done c (⟨attnV m ρ c, woV m ρ c⟩ : Σ' (_ : FVec F S256x1024 .bf16), FVec F S1024x1024 .bf16) Q)
  iapply Hcont
  isplitl [HO]; · iexact HO
  isplitl [Hw]; · iexact Hw
  isplitl [Hgive]; · iexact Hgive
  isplitl [Hs]; · iexact Hs
  isplitl [Hp32]; · iexact Hp32
  isplitl [Hpb]; · iexact Hpb
  iexact Hp

end Cert.Fused
-- ==== Proof.BodyB.lean ====
/-
# The body, the chunks stored and sent
-/
module

public import proofs.«01_k».proof.Proof.Access

@[expose] public section

set_option maxRecDepth 16384

noncomputable section

namespace Cert.Fused

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option J → ℕ)

/-- Chunk 0 is sent, chunks 1 and 2 are stored and sent, and chunk 3 is stored unrounded. -/
theorem part7_spec (c : Dev nD) (Q) :
    iprop(known m ρ K ∗ sndSt m ρ c 0 ∗ pbP c 0 (pbF m ρ c) ∗ p32St m ρ c (lo 1) ∗ pbSt (F := F) c 1
        ∗ ((sndSt m ρ c 3 ∗ p32St m ρ c (lo 4) ∗ pbSt (F := F) c 3) -∗ Q (k0_pay33 (attnV m ρ c) (woV m ρ c))))
      ⊢ WP c (k0_part7 (F := F) (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c (v2W c) (attnV m ρ c) (woV m ρ c)) Q := by
  rw [k0_part7_eq_skeleton]
  unfold k0_part7_skel
  iintro ⟨#HK, Hsnd, Hp, Hf, Hb, Hcont⟩
  iapply (snd_step m ρ K c 0 0 1 rfl rfl ((by decide : ∀ c, k0_cond9 c = 1#1 ↔ (0 : Fin 8) ≠ c) c) (fun _ => rfl) rfl
    (fun _ => sM_of (k0_off3_eq c)) rfl (fun _ => arrive_of (k0_off2_eq c)) _ Q)
  isplitr; · iexact HK
  isplitl [Hsnd]; · iexact Hsnd
  isplitl [Hp]; · iexact Hp
  iintro Hsnd
  iapply (st32_do m ρ c 1 1 2 rfl rfl 32 rfl rfl _ Q)
  isplitl [Hf]; · iexact Hf
  iintro Hf
  iapply (stb_do m ρ c 1 1 2 rfl rfl 32 rfl rfl _ Q)
  isplitl [Hb]; · iexact Hb
  iintro Hb Hp
  iapply (snd_step m ρ K c 1 1 2 rfl rfl ((by decide : ∀ c, k0_cond10 c = 1#1 ↔ (1 : Fin 8) ≠ c) c) (fun _ => rfl) rfl
    (fun _ => sM_of (k0_off5_eq c)) rfl (fun _ => arrive_of (k0_off4_eq c)) _ Q)
  isplitr; · iexact HK
  isplitl [Hsnd]; · iexact Hsnd
  isplitl [Hp]; · iexact Hp
  iintro Hsnd
  iapply (st32_do m ρ c 2 2 3 rfl rfl 64 rfl rfl _ Q)
  isplitl [Hf]; · iexact Hf
  iintro Hf
  iapply (stb_do m ρ c 2 2 3 rfl rfl 64 rfl rfl _ Q)
  isplitl [Hb]; · iexact Hb
  iintro Hb Hp
  iapply (snd_step m ρ K c 2 2 3 rfl rfl ((by decide : ∀ c, k0_cond11 c = 1#1 ↔ (2 : Fin 8) ≠ c) c) (fun _ => rfl) rfl
    (fun _ => sM_of (k0_off7_eq c)) rfl (fun _ => arrive_of (k0_off6_eq c)) _ Q)
  isplitr; · iexact HK
  isplitl [Hsnd]; · iexact Hsnd
  isplitl [Hp]; · iexact Hp
  iintro Hsnd
  iapply (st32_do m ρ c 3 3 4 rfl rfl 96 rfl rfl _ Q)
  isplitl [Hf]; · iexact Hf
  iintro Hf
  iapply (wp_done c _ Q)
  iapply Hcont
  isplitl [Hsnd]; · iexact Hsnd
  isplitl [Hf]; · iexact Hf
  iexact Hb

/-- Chunks 3, 4 and 5 are stored and sent. -/
theorem part8_spec (c : Dev nD) (Q) :
    iprop(known m ρ K ∗ sndSt m ρ c 3 ∗ p32St m ρ c (lo 4) ∗ pbSt (F := F) c 3
        ∗ ((sndSt m ρ c 6 ∗ p32St m ρ c (lo 6) ∗ pbSt (F := F) c 6) -∗ Q (k0_pay41 (attnV m ρ c) (woV m ρ c))))
      ⊢ WP c (k0_part8 (F := F) (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c (v2W c) (attnV m ρ c) (woV m ρ c) (k0_pay33 (attnV m ρ c) (woV m ρ c))) Q := by
  rw [k0_part8_eq_skeleton]
  unfold k0_part8_skel
  iintro ⟨#HK, Hsnd, Hf, Hb, Hcont⟩
  iapply (stb_do m ρ c 3 3 4 rfl rfl 96 rfl rfl _ Q)
  isplitl [Hb]; · iexact Hb
  iintro Hb Hp
  iapply (snd_step m ρ K c 3 3 4 rfl rfl ((by decide : ∀ c, k0_cond12 c = 1#1 ↔ (3 : Fin 8) ≠ c) c) (fun _ => rfl) rfl
    (fun _ => sM_of (k0_off9_eq c)) rfl (fun _ => arrive_of (k0_off8_eq c)) _ Q)
  isplitr; · iexact HK
  isplitl [Hsnd]; · iexact Hsnd
  isplitl [Hp]; · iexact Hp
  iintro Hsnd
  iapply (st32_do m ρ c 4 4 5 rfl rfl 128 rfl rfl _ Q)
  isplitl [Hf]; · iexact Hf
  iintro Hf
  iapply (stb_do m ρ c 4 4 5 rfl rfl 128 rfl rfl _ Q)
  isplitl [Hb]; · iexact Hb
  iintro Hb Hp
  iapply (snd_step m ρ K c 4 4 5 rfl rfl ((by decide : ∀ c, k0_cond13 c = 1#1 ↔ (4 : Fin 8) ≠ c) c) (fun _ => rfl) rfl
    (fun _ => sM_of (k0_off11_eq c)) rfl (fun _ => arrive_of (k0_off10_eq c)) _ Q)
  isplitr; · iexact HK
  isplitl [Hsnd]; · iexact Hsnd
  isplitl [Hp]; · iexact Hp
  iintro Hsnd
  iapply (st32_do m ρ c 5 5 6 rfl rfl 160 rfl rfl _ Q)
  isplitl [Hf]; · iexact Hf
  iintro Hf
  iapply (stb_do m ρ c 5 5 6 rfl rfl 160 rfl rfl _ Q)
  isplitl [Hb]; · iexact Hb
  iintro Hb Hp
  iapply (snd_step m ρ K c 5 5 6 rfl rfl ((by decide : ∀ c, k0_cond14 c = 1#1 ↔ (5 : Fin 8) ≠ c) c) (fun _ => rfl) rfl
    (fun _ => sM_of (k0_off13_eq c)) rfl (fun _ => arrive_of (k0_off12_eq c)) _ Q)
  isplitr; · iexact HK
  isplitl [Hsnd]; · iexact Hsnd
  isplitl [Hp]; · iexact Hp
  iintro Hsnd
  iapply (wp_done c _ Q)
  iapply Hcont
  isplitl [Hsnd]; · iexact Hsnd
  isplitl [Hf]; · iexact Hf
  iexact Hb

/-- The last two chunks are stored and sent, the device's own slot is filled with zeros, and the first arrival taken. -/
theorem part9_spec (c : Dev nD) (Q) :
    iprop(known m ρ K ∗ sndSt m ρ c 6 ∗ p32St m ρ c (lo 6) ∗ pbSt (F := F) c 6 ∗ (∃ f, scP (F := F) c c f) ∗ arr m ρ 1 c 0
        ∗ ((ow c 8 8 0 ∗ (bigSep Finset.univ fun q : Fin 8 => if q = c then pbP c q (pbF m ρ c) else cred (tallyAt (cell c (.inr (0, q))) () nXf))
            ∗ p32St m ρ c (lo 8) ∗ scP c c (scF m ρ c) ∗ arr m ρ 1 c 1) -∗ Q (neW c 1#32)))
      ⊢ WP c (k0_part9 (F := F) (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c (v2W c) (attnV m ρ c) (woV m ρ c) (k0_pay41 (attnV m ρ c) (woV m ρ c))) Q := by
  rw [k0_part9_eq_skeleton]
  unfold k0_part9_skel
  iintro ⟨#HK, Hsnd, Hf, Hb, Hsc, Harr, Hcont⟩
  iapply (st32_do m ρ c 6 6 7 rfl rfl 192 rfl rfl _ Q)
  isplitl [Hf]; · iexact Hf
  iintro Hf
  iapply (stb_do m ρ c 6 6 7 rfl rfl 192 rfl rfl _ Q)
  isplitl [Hb]; · iexact Hb
  iintro Hb Hp
  iapply (snd_step m ρ K c 6 6 7 rfl rfl ((by decide : ∀ c, k0_cond15 c = 1#1 ↔ (6 : Fin 8) ≠ c) c) (fun _ => rfl) rfl
    (fun _ => sM_of (k0_off15_eq c)) rfl (fun _ => arrive_of (k0_off14_eq c)) _ Q)
  isplitr; · iexact HK
  isplitl [Hsnd]; · iexact Hsnd
  isplitl [Hp]; · iexact Hp
  iintro Hsnd
  iapply (st32_do m ρ c 7 7 8 rfl rfl 224 rfl rfl _ Q)
  isplitl [Hf]; · iexact Hf
  iintro Hf
  iapply (stb_do m ρ c 7 7 8 rfl rfl 224 rfl rfl _ Q)
  isplitl [Hb]; · iexact Hb
  iintro Hb Hp
  iapply (snd_step m ρ K c 7 7 8 rfl rfl ((by decide : ∀ c, k0_cond16 c = 1#1 ↔ (7 : Fin 8) ≠ c) c) (fun _ => rfl) rfl
    (fun _ => sM_of (k0_off17_eq c)) rfl (fun _ => arrive_of (k0_off16_eq c)) _ Q)
  isplitr; · iexact HK
  isplitl [Hsnd]; · iexact Hsnd
  isplitl [Hp]; · iexact Hp
  iintro Hsnd
  iapply (zero_do m ρ c (k0_off18_eq c) _ Q)
  isplitl [Hsc]; · iexact Hsc
  iintro Hsc
  unfold sndSt
  rw [hi_none, lo_all, emp_sep_eq]
  icases Hsnd with ⟨HO, Hsnd⟩
  iapply (take_step m ρ K c 0 0 1 rfl rfl ((by decide : ∀ c, neW c 0#32 = 1#1 ↔ (0 : Fin 8) ≠ c) c) rfl rfl _ Q)
  isplitr; · iexact HK
  isplitl [HO Harr]
  · isplitl [HO]; · iexact HO
    iexact Harr
  iintro ⟨HO, Harr⟩
  iapply (wp_done c _ Q)
  iapply Hcont
  isplitl [HO]; · iexact HO
  isplitl [Hsnd]; · iexact Hsnd
  isplitl [Hf]; · iexact Hf
  isplitl [Hsc]; · iexact Hsc
  iexact Harr

end Cert.Fused
-- ==== Proof.BodyC.lean ====
/-
# The body, the chunks gathered and reduced
-/
module

public import proofs.«01_k».proof.Proof.Access

@[expose] public section

set_option maxRecDepth 16384

noncomputable section

namespace Cert.Fused

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option J → ℕ)

/-- The other seven arrivals are taken; the device's own rows and the first three slots are read. -/
theorem part10_spec (c : Dev nD) (Q) :
    iprop(known m ρ K ∗ ow c 8 8 0 ∗ arr m ρ 1 c 1 ∗ scP c c (scF m ρ c) ∗ Pt cc0_scratch1 c (p32F m ρ c)
        ∗ ((ow c 8 8 0 ∗ Pt cc0_scratch3 c (scF m ρ c) ∗ (bigSep Finset.univ fun q => off c q (semVal (cell c (.inr (1, q))) 0))
            ∗ Pt cc0_scratch1 c (p32F m ρ c)) -∗ Q ⟨k0_pay48 (ownV m ρ c) (scV m ρ c 0) (scV m ρ c 1), k0_pay49 (scV m ρ c 2)⟩))
      ⊢ WP c (k0_part10 (F := F) (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c (v2W c) (Scalar.muli 32#32 (v2W c)) (neW c 1#32)) Q := by
  rw [k0_part10_eq_skeleton]
  unfold k0_part10_skel
  iintro ⟨#HK, HO, Harr, Hsc, Hf, Hcont⟩
  iapply (take_step m ρ K c 1 1 2 rfl rfl ((by decide : ∀ c, neW c 1#32 = 1#1 ↔ (1 : Fin 8) ≠ c) c) rfl rfl _ Q)
  isplitr; · iexact HK
  isplitl [HO Harr]
  · isplitl [HO]; · iexact HO
    iexact Harr
  iintro ⟨HO, Harr⟩
  iapply (take_step m ρ K c 2 2 3 rfl rfl ((by decide : ∀ c, neW c 2#32 = 1#1 ↔ (2 : Fin 8) ≠ c) c) rfl rfl _ Q)
  isplitr; · iexact HK
  isplitl [HO Harr]
  · isplitl [HO]; · iexact HO
    iexact Harr
  iintro ⟨HO, Harr⟩
  iapply (take_step m ρ K c 3 3 4 rfl rfl ((by decide : ∀ c, neW c 3#32 = 1#1 ↔ (3 : Fin 8) ≠ c) c) rfl rfl _ Q)
  isplitr; · iexact HK
  isplitl [HO Harr]
  · isplitl [HO]; · iexact HO
    iexact Harr
  iintro ⟨HO, Harr⟩
  iapply (take_step m ρ K c 4 4 5 rfl rfl ((by decide : ∀ c, neW c 4#32 = 1#1 ↔ (4 : Fin 8) ≠ c) c) rfl rfl _ Q)
  isplitr; · iexact HK
  isplitl [HO Harr]
  · isplitl [HO]; · iexact HO
    iexact Harr
  iintro ⟨HO, Harr⟩
  iapply (take_step m ρ K c 5 5 6 rfl rfl ((by decide : ∀ c, neW c 5#32 = 1#1 ↔ (5 : Fin 8) ≠ c) c) rfl rfl _ Q)
  isplitr; · iexact HK
  isplitl [HO Harr]
  · isplitl [HO]; · iexact HO
    iexact Harr
  iintro ⟨HO, Harr⟩
  iapply (take_step m ρ K c 6 6 7 rfl rfl ((by decide : ∀ c, neW c 6#32 = 1#1 ↔ (6 : Fin 8) ≠ c) c) rfl rfl _ Q)
  isplitr; · iexact HK
  isplitl [HO Harr]
  · isplitl [HO]; · iexact HO
    iexact Harr
  iintro ⟨HO, Harr⟩
  iapply (take_step m ρ K c 7 7 8 rfl rfl ((by decide : ∀ c, neW c 7#32 = 1#1 ↔ (7 : Fin 8) ≠ c) c) rfl rfl _ Q)
  isplitr; · iexact HK
  isplitl [HO Harr]
  · isplitl [HO]; · iexact HO
    iexact Harr
  iintro ⟨HO, Harr⟩
  ihave Hg := (gathered m ρ c) $$ [Hsc Harr]
  · isplitl [Hsc]; · iexact Hsc
    iexact Harr
  icases Hg with ⟨Hg, Hs⟩
  iapply (own_get m ρ c (k0_off19_eq c) _ Q)
  isplitl [Hf]; · iexact Hf
  iintro Hf
  iapply (sc_get m ρ c 0 0 rfl _ Q)
  isplitl [Hg]; · iexact Hg
  iintro Hg
  iapply (sc_get m ρ c 1 1 rfl _ Q)
  isplitl [Hg]; · iexact Hg
  iintro Hg
  iapply (sc_get m ρ c 2 2 rfl _ Q)
  isplitl [Hg]; · iexact Hg
  iintro Hg
  iapply (wp_done c _ Q)
  iapply Hcont
  isplitl [HO]; · iexact HO
  isplitl [Hg]; · iexact Hg
  isplitl [Hs]; · iexact Hs
  iexact Hf

/-- The last five slots are read, the reduced rows stored, unrounded in the output and rounded for sending, and sent to device 0. -/
theorem part11_spec (c : Dev nD) (Q) :
    iprop(known m ρ K ∗ ow c 8 8 0 ∗ Pt cc0_scratch3 c (scF m ρ c) ∗ outSt m ρ c ∅ ∗ (∃ f, Pt (F := F) cc0_scratch4 c f)
        ∗ (bigSep Finset.univ fun q => off c q iprop(dutyTok ER (cell c (.inr (2, q))) 0 0 ∗ dutyTok ER (cell q (.inr (3, c))) 0 0 ∗ ∃ f, bcP (F := F) q c f))
        ∗ ((redSt m ρ c 1 ∗ Pt cc0_scratch3 c (scF m ρ c) ∗ outSt m ρ c (insert c ∅)) -∗ Q (Scalar.cmpi .ne (v2W c) 1#32)))
      ⊢ WP c (k0_part11 (F := F) (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c (v2W c) (Scalar.muli 32#32 (v2W c)) (k0_pay48 (ownV m ρ c) (scV m ρ c 0) (scV m ρ c 1)) (k0_pay49 (scV m ρ c 2))) Q := by
  rw [k0_part11_eq_skeleton]
  unfold k0_part11_skel
  iintro ⟨#HK, HO, Hg, Hout, Hbb, Htok, Hcont⟩
  iapply (sc_get m ρ c 3 3 rfl _ Q)
  isplitl [Hg]; · iexact Hg
  iintro Hg
  iapply (sc_get m ρ c 4 4 rfl _ Q)
  isplitl [Hg]; · iexact Hg
  iintro Hg
  iapply (sc_get m ρ c 5 5 rfl _ Q)
  isplitl [Hg]; · iexact Hg
  iintro Hg
  iapply (sc_get m ρ c 6 6 rfl _ Q)
  isplitl [Hg]; · iexact Hg
  iintro Hg
  iapply (sc_get m ρ c 7 7 rfl _ Q)
  isplitl [Hg]; · iexact Hg
  iintro Hg
  iapply (out_do m ρ c c ∅ (k0_off19_eq c) (outF_own m ρ c) _ Q)
  isplitl [Hout]; · iexact Hout
  iintro Hout
  iapply (bb_do m ρ c rfl _ Q)
  isplitl [Hbb]; · iexact Hbb
  iintro Hbb
  ihave Hred := (red_start m ρ c) $$ [HO Hbb Htok]
  · isplitl [HO]; · iexact HO
    isplitl [Hbb]; · iexact Hbb
    iexact Htok
  iapply (red_step m ρ K c 0 0 1 rfl rfl ((by decide : ∀ c, k0_cond25 c = 1#1 ↔ (0 : Fin 8) ≠ c) c) (fun _ => rfl)
    (fun _ => bM_of (k0_off21_eq c)) rfl (fun _ => arrive'_of (k0_off20_eq c)) _ Q)
  isplitr; · iexact HK
  isplitl [Hred]; · iexact Hred
  iintro Hred
  iapply (wp_done c _ Q)
  iapply Hcont
  isplitl [Hred]; · iexact Hred
  isplitl [Hg]; · iexact Hg
  iexact Hout

end Cert.Fused
-- ==== Proof.BodyD.lean ====
/-
# The body, the reduced rows sent and gathered
-/
module

public import proofs.«01_k».proof.Proof.Access

@[expose] public section

set_option maxRecDepth 16384

noncomputable section

namespace Cert.Fused

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option J → ℕ)

/-- The reduced rows are sent to the devices 1 to 7, and the first two arrivals stored in the output. -/
theorem part12_spec (c : Dev nD) (v401 : BitVec 1) (Q) :
    iprop(known m ρ K ∗ redSt m ρ c 1 ∗ arr m ρ 3 c 0 ∗ outSt m ρ c (insert c ∅)
        ∗ ((fillSt m ρ c 2 ∗ (bigSep Finset.univ fun q : Fin 8 => if q = c then bbP c q (bbF m ρ c) else cred (tallyAt (cell c (.inr (2, q))) () nXf)))
            -∗ Q (neW c 2#32)))
      ⊢ WP c (k0_part12 (F := F) (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c (v2W c) v401) Q := by
  rw [k0_part12_eq_skeleton]
  unfold k0_part12_skel
  iintro ⟨#HK, Hred, Harr, Hout, Hcont⟩
  iapply (red_step m ρ K c 1 1 2 rfl rfl ((by decide : ∀ c, k0_cond26 c = 1#1 ↔ (1 : Fin 8) ≠ c) c) (fun _ => rfl)
    (fun _ => bM_of (k0_off23_eq c)) rfl (fun _ => arrive'_of (k0_off22_eq c)) _ Q)
  isplitr; · iexact HK
  isplitl [Hred]; · iexact Hred
  iintro Hred
  iapply (red_step m ρ K c 2 2 3 rfl rfl ((by decide : ∀ c, k0_cond27 c = 1#1 ↔ (2 : Fin 8) ≠ c) c) (fun _ => rfl)
    (fun _ => bM_of (k0_off25_eq c)) rfl (fun _ => arrive'_of (k0_off24_eq c)) _ Q)
  isplitr; · iexact HK
  isplitl [Hred]; · iexact Hred
  iintro Hred
  iapply (red_step m ρ K c 3 3 4 rfl rfl ((by decide : ∀ c, k0_cond28 c = 1#1 ↔ (3 : Fin 8) ≠ c) c) (fun _ => rfl)
    (fun _ => bM_of (k0_off27_eq c)) rfl (fun _ => arrive'_of (k0_off26_eq c)) _ Q)
  isplitr; · iexact HK
  isplitl [Hred]; · iexact Hred
  iintro Hred
  iapply (red_step m ρ K c 4 4 5 rfl rfl ((by decide : ∀ c, k0_cond29 c = 1#1 ↔ (4 : Fin 8) ≠ c) c) (fun _ => rfl)
    (fun _ => bM_of (k0_off29_eq c)) rfl (fun _ => arrive'_of (k0_off28_eq c)) _ Q)
  isplitr; · iexact HK
  isplitl [Hred]; · iexact Hred
  iintro Hred
  iapply (red_step m ρ K c 5 5 6 rfl rfl ((by decide : ∀ c, k0_cond30 c = 1#1 ↔ (5 : Fin 8) ≠ c) c) (fun _ => rfl)
    (fun _ => bM_of (k0_off31_eq c)) rfl (fun _ => arrive'_of (k0_off30_eq c)) _ Q)
  isplitr; · iexact HK
  isplitl [Hred]; · iexact Hred
  iintro Hred
  iapply (red_step m ρ K c 6 6 7 rfl rfl ((by decide : ∀ c, k0_cond31 c = 1#1 ↔ (6 : Fin 8) ≠ c) c) (fun _ => rfl)
    (fun _ => bM_of (k0_off33_eq c)) rfl (fun _ => arrive'_of (k0_off32_eq c)) _ Q)
  isplitr; · iexact HK
  isplitl [Hred]; · iexact Hred
  iintro Hred
  iapply (red_step m ρ K c 7 7 8 rfl rfl ((by decide : ∀ c, k0_cond32 c = 1#1 ↔ (7 : Fin 8) ≠ c) c) (fun _ => rfl)
    (fun _ => bM_of (k0_off35_eq c)) rfl (fun _ => arrive'_of (k0_off34_eq c)) _ Q)
  isplitr; · iexact HK
  isplitl [Hred]; · iexact Hred
  iintro Hred
  unfold redSt
  rw [hi_none, lo_all, emp_sep_eq]
  icases Hred with ⟨HO, Hred⟩
  ihave Hfill := (fill_start m ρ c) $$ [HO Harr Hout]
  · isplitl [HO]; · iexact HO
    isplitl [Harr]; · iexact Harr
    iexact Hout
  iapply (fill_step m ρ K c 0 0 1 rfl rfl ((by decide : ∀ c, neW c 0#32 = 1#1 ↔ (0 : Fin 8) ≠ c) c) rfl rfl 0 0 rfl rfl rfl _ Q)
  isplitr; · iexact HK
  isplitl [Hfill]; · iexact Hfill
  iintro Hfill
  iapply (fill_step m ρ K c 1 1 2 rfl rfl ((by decide : ∀ c, neW c 1#32 = 1#1 ↔ (1 : Fin 8) ≠ c) c) rfl rfl 32 1 rfl rfl rfl _ Q)
  isplitr; · iexact HK
  isplitl [Hfill]; · iexact Hfill
  iintro Hfill
  iapply (wp_done c _ Q)
  iapply Hcont
  isplitl [Hfill]; · iexact Hfill
  iexact Hred

/-- The other arrivals are stored in the output, and the sends to devices 0 to 3 have completed. -/
theorem part13_spec (c : Dev nD) (Q) :
    iprop(known m ρ K ∗ fillSt m ρ c 2 ∗ drains m ρ c
        ∗ ((drSt m ρ c 4 ∗ arr m ρ 3 c 8 ∗ outSt m ρ c Finset.univ) -∗ Q ⟨⟩))
      ⊢ WP c (k0_part13 (F := F) (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 c (v2W c) (neW c 2#32)) Q := by
  rw [k0_part13_eq_skeleton]
  unfold k0_part13_skel
  iintro ⟨#HK, Hfill, Hd, Hcont⟩
  iapply (fill_step m ρ K c 2 2 3 rfl rfl ((by decide : ∀ c, neW c 2#32 = 1#1 ↔ (2 : Fin 8) ≠ c) c) rfl rfl 64 2 rfl rfl rfl _ Q)
  isplitr; · iexact HK
  isplitl [Hfill]; · iexact Hfill
  iintro Hfill
  iapply (fill_step m ρ K c 3 3 4 rfl rfl ((by decide : ∀ c, neW c 3#32 = 1#1 ↔ (3 : Fin 8) ≠ c) c) rfl rfl 96 3 rfl rfl rfl _ Q)
  isplitr; · iexact HK
  isplitl [Hfill]; · iexact Hfill
  iintro Hfill
  iapply (fill_step m ρ K c 4 4 5 rfl rfl ((by decide : ∀ c, neW c 4#32 = 1#1 ↔ (4 : Fin 8) ≠ c) c) rfl rfl 128 4 rfl rfl rfl _ Q)
  isplitr; · iexact HK
  isplitl [Hfill]; · iexact Hfill
  iintro Hfill
  iapply (fill_step m ρ K c 5 5 6 rfl rfl ((by decide : ∀ c, neW c 5#32 = 1#1 ↔ (5 : Fin 8) ≠ c) c) rfl rfl 160 5 rfl rfl rfl _ Q)
  isplitr; · iexact HK
  isplitl [Hfill]; · iexact Hfill
  iintro Hfill
  iapply (fill_step m ρ K c 6 6 7 rfl rfl ((by decide : ∀ c, neW c 6#32 = 1#1 ↔ (6 : Fin 8) ≠ c) c) rfl rfl 192 6 rfl rfl rfl _ Q)
  isplitr; · iexact HK
  isplitl [Hfill]; · iexact Hfill
  iintro Hfill
  iapply (fill_step m ρ K c 7 7 8 rfl rfl ((by decide : ∀ c, neW c 7#32 = 1#1 ↔ (7 : Fin 8) ≠ c) c) rfl rfl 224 7 rfl rfl rfl _ Q)
  isplitr; · iexact HK
  isplitl [Hfill]; · iexact Hfill
  iintro Hfill
  unfold fillSt
  icases Hfill with ⟨HO, Harr, Hout⟩
  ihave Hdr := (drain_start m ρ c) $$ [HO Hd]
  · isplitl [HO]; · iexact HO
    iexact Hd
  iapply (drain_step m ρ K c 0 0 1 rfl rfl ((by decide : ∀ c, k0_cond41 c = 1#1 ↔ (0 : Fin 8) ≠ c) c) rfl rfl rfl _ Q)
  isplitr; · iexact HK
  isplitl [Hdr]; · iexact Hdr
  iintro Hdr
  iapply (drain_step m ρ K c 1 1 2 rfl rfl ((by decide : ∀ c, k0_cond42 c = 1#1 ↔ (1 : Fin 8) ≠ c) c) rfl rfl rfl _ Q)
  isplitr; · iexact HK
  isplitl [Hdr]; · iexact Hdr
  iintro Hdr
  iapply (drain_step m ρ K c 2 2 3 rfl rfl ((by decide : ∀ c, k0_cond43 c = 1#1 ↔ (2 : Fin 8) ≠ c) c) rfl rfl rfl _ Q)
  isplitr; · iexact HK
  isplitl [Hdr]; · iexact Hdr
  iintro Hdr
  iapply (drain_step m ρ K c 3 3 4 rfl rfl ((by decide : ∀ c, k0_cond44 c = 1#1 ↔ (3 : Fin 8) ≠ c) c) rfl rfl rfl _ Q)
  isplitr; · iexact HK
  isplitl [Hdr]; · iexact Hdr
  iintro Hdr
  iapply (wp_done c _ Q)
  iapply Hcont
  isplitl [Hdr]; · iexact Hdr
  isplitl [Harr]; · iexact Harr
  rw [show (Finset.univ : Finset (Fin 8)) = insert c (lo 8) by rw [lo_end, Finset.insert_eq_of_mem (Finset.mem_univ c)]]
  iexact Hout

end Cert.Fused
-- ==== Proof.Sound.lean ====
/-
# The body of one device
-/
module

public import proofs.«01_k».proof.Proof.Access
public import proofs.«01_k».proof.Proof.BodyA
public import proofs.«01_k».proof.Proof.BodyB
public import proofs.«01_k».proof.Proof.BodyC
public import proofs.«01_k».proof.Proof.BodyD

@[expose] public section

set_option maxRecDepth 16384

noncomputable section

namespace Cert.Fused

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option J → ℕ)

/-! ## What the body starts from and ends with -/

omit [FloatOps F] in
theorem regroup (A B C D : sProp 𝕄) : iprop((A ∗ B ∗ C) ∗ D) = iprop(A ∗ B ∗ C ∗ D) := by
  have h₁ : iprop((A ∗ B ∗ C) ∗ D) ⊢ iprop(A ∗ B ∗ C ∗ D) := by
    iintro ⟨⟨H0, H1, H2⟩, H⟩
    isplitl [H0]; · iexact H0
    isplitl [H1]; · iexact H1
    isplitl [H2]; · iexact H2
    iexact H
  have h₂ : iprop(A ∗ B ∗ C ∗ D) ⊢ iprop((A ∗ B ∗ C) ∗ D) := by
    iintro ⟨H0, H1, H2, H⟩
    isplitr [H]
    · isplitl [H0]; · iexact H0
      isplitl [H1]; · iexact H1
      iexact H2
    · iexact H
  exact Entails.antisymm h₁ h₂

omit [FloatOps F] in
/-- A family over a device's own semaphores, kind by kind. -/
theorem over_J (Φ : J → sProp 𝕄) : bigSep Finset.univ Φ = iprop(Φ (.inl 0) ∗ Φ (.inl 1) ∗ Φ (.inl 2)
    ∗ (bigSep Finset.univ fun q => Φ (.inr (0, q))) ∗ (bigSep Finset.univ fun q => Φ (.inr (1, q)))
    ∗ (bigSep Finset.univ fun q => Φ (.inr (2, q))) ∗ bigSep Finset.univ fun q => Φ (.inr (3, q))) := by
  rw [bigSep_univ_sum, bigSep_univ_prod, show (Finset.univ : Finset (Fin 3)) = insert 0 (insert 1 {2}) from rfl,
    bigSep_insert (by decide), bigSep_insert (by decide), bigSep_singleton, show (Finset.univ : Finset (Fin 4)) = insert 0 (insert 1 (insert 2 {3})) from rfl,
    bigSep_insert (by decide), bigSep_insert (by decide), bigSep_insert (by decide), bigSep_singleton]
  exact regroup _ _ _ _

/-- What device `c` signals and sends with: its two loads' duties; its duty of each other device's barrier; and for each other device
    the duties of the two transfers to it. -/
def toksOf (c : Dev nD) : sProp 𝕄 :=
  iprop(dutyTok ER (cell c (.inl 0)) 0 0 ∗ dutyTok ER (cell c (.inl 1)) 0 0
    ∗ (bigSep Finset.univ fun q => off c q (dutyTok ER (barCell q) 0 c))
    ∗ (bigSep Finset.univ fun q => off c q (dutyTok ER (cell c (.inr (0, q))) 0 0))
    ∗ (bigSep Finset.univ fun q => off c q (dutyTok ER (cell q (.inr (1, c))) 0 0))
    ∗ (bigSep Finset.univ fun q => off c q (dutyTok ER (cell c (.inr (2, q))) 0 0))
    ∗ (bigSep Finset.univ fun q => off c q (dutyTok ER (cell q (.inr (3, c))) 0 0)))

/-- Its positions: at its barrier and at its own semaphores. -/
def posOf (c : Dev nD) : sProp 𝕄 :=
  iprop(atPos ER (barCell c) 0 ∅ 0 ∗ bigSep Finset.univ fun k : J => atPos ER (cell c k) 0 ∅ 0)

/-- What it may wait for: seven signals, and an arrival of each kind from each other device. -/
def credsOf (c : Dev nD) : sProp 𝕄 :=
  iprop(cred (tallyAt (barCell c) () 7) ∗ (bigSep Finset.univ fun q => off c q (cred (tallyAt (cell c (.inr (1, q))) () nXf)))
    ∗ bigSep Finset.univ fun q => off c q (cred (tallyAt (cell c (.inr (3, q))) () nXf)))

/-- Its counters, all at zero again. -/
def semsOf (c : Dev nD) : sProp 𝕄 := iprop(semVal (barCell c) 0 ∗ bigSep Finset.univ fun k : J => semVal (cell c k) 0)

/-- The two weights left in the far memory. -/
def argsOf (c : Dev nD) : sProp 𝕄 :=
  iprop(Pt main_arg3 c (m ((c : Thread nD τ).loc main_arg3)) ∗ Pt main_arg4 c (m ((c : Thread nD τ).loc main_arg4)))

/-- The kernel's own buffers, holding anything. -/
def scratchOf (c : Dev nD) : sProp 𝕄 :=
  iprop((∃ f, Pt (F := F) cc0_scratch0 c f) ∗ (∃ f, Pt (F := F) cc0_scratch1 c f) ∗ (∃ f, Pt (F := F) cc0_scratch2 c f)
    ∗ (∃ f, Pt (F := F) cc0_scratch3 c f) ∗ (∃ f, Pt (F := F) cc0_scratch4 c f) ∗ (∃ f, Pt (F := F) cc0_scratch5 c f))

/-! ## Into the pieces -/

omit [FloatOps F] in
theorem sig_start (c : Dev nD) : iprop(ow c 0 0 0 ∗ (bigSep Finset.univ fun q => off c q (dutyTok ER (barCell q) 0 c))
    ∗ (bigSep Finset.univ fun q => off c q iprop(∃ f, scP (F := F) c q f)) ∗ (bigSep Finset.univ fun q => off c q iprop(∃ f, bcP (F := F) c q f)))
    ⊢ sigSt (F := F) c 0 := by
  unfold sigSt
  rw [hi_all, offs_sep]
  unfold givePay
  rw [offs_sep]

omit [FloatOps F] in
theorem sc_in (c : Dev nD) : iprop(∃ f, Pt (F := F) cc0_scratch3 c f)
    ⊢ iprop((∃ f, scP (F := F) c c f) ∗ bigSep Finset.univ fun q => off c q iprop(∃ f, scP (F := F) c q f)) := by
  refine BIBase.Entails.trans ?_ (Entails.of_eq (split_own c fun q => iprop(∃ f, scP (F := F) c q f)))
  iintro ⟨%f, H⟩
  have h : ∀ q, (scP (F := F) c q f : sProp 𝕄) ⊢ iprop(∃ f, scP (F := F) c q f) := fun q => by iintro H; iexists f; iexact H
  iapply (show (bigSep Finset.univ fun q => scP c q f) ⊢ bigSep Finset.univ fun q => iprop(∃ f, scP (F := F) c q f) from exist_pieces h)
  rw [← sc_whole]; iexact H
omit [FloatOps F] in
theorem bc_in (c : Dev nD) : iprop(∃ f, Pt (F := F) cc0_scratch5 c f)
    ⊢ iprop((∃ f, bcP (F := F) c c f) ∗ bigSep Finset.univ fun q => off c q iprop(∃ f, bcP (F := F) c q f)) := by
  refine BIBase.Entails.trans ?_ (Entails.of_eq (split_own c fun q => iprop(∃ f, bcP (F := F) c q f)))
  iintro ⟨%f, H⟩
  have h : ∀ q, (bcP (F := F) c q f : sProp 𝕄) ⊢ iprop(∃ f, bcP (F := F) c q f) := fun q => by iintro H; iexists f; iexact H
  iapply (show (bigSep Finset.univ fun q => bcP c q f) ⊢ bigSep Finset.univ fun q => iprop(∃ f, bcP (F := F) c q f) from exist_pieces h)
  rw [← bc_whole]; iexact H
omit [FloatOps F] in
theorem pb_in (c : Dev nD) : iprop(∃ f, Pt (F := F) cc0_scratch2 c f) ⊢ pbSt (F := F) c 0 := by
  unfold pbSt
  rw [hi_all]
  iintro ⟨%f, H⟩
  have h : ∀ q, (pbP (F := F) c q f : sProp 𝕄) ⊢ iprop(∃ f, pbP (F := F) c q f) := fun q => by iintro H; iexists f; iexact H
  iapply (show (bigSep Finset.univ fun q => pbP c q f) ⊢ bigSep Finset.univ fun q => iprop(∃ f, pbP (F := F) c q f) from exist_pieces h)
  rw [← pb_whole]; iexact H
omit [FloatOps F] in
theorem kv_in (c : Dev nD) : iprop(∃ f, Pt (F := F) cc0_scratch0 c f) ⊢ iprop((∃ f, kvP (F := F) c 0 f) ∗ (∃ f, kvP (F := F) c 1 f)) := by
  iintro ⟨%f, H⟩
  ihave H := (Entails.of_eq (kv_whole c f)) $$ H
  icases H with ⟨H0, H1⟩
  isplitl [H0]
  · iexists f; iexact H0
  · iexists f; iexact H1
theorem p32_in (c : Dev nD) : iprop(∃ f, Pt (F := F) cc0_scratch1 c f) ⊢ p32St m ρ c (lo 0) := by
  unfold p32St
  iintro ⟨%f, H⟩
  iexists f
  isplitr
  · ipureintro; intro i hi; rw [lo_zero] at hi; exact absurd hi (Finset.notMem_empty _)
  · iexact H
theorem out_in (c : Dev nD) : iprop(∃ f, Pt (F := F) cc0_stg3_0 c f) ⊢ outSt m ρ c ∅ := by
  unfold outSt
  iintro ⟨%f, H⟩
  iexists f
  isplitr
  · ipureintro; intro i hi; exact absurd hi (Finset.notMem_empty _)
  · iexact H

omit [FloatOps F] in
/-- A weight and the columns the device takes of it. -/
theorem key_cols (c : Dev nD) : (Pt main_arg3 c (m ((c : Thread nD τ).loc main_arg3)) : sProp 𝕄)
    ⊣⊢ iprop(kcolP m c ∗ (((c : Thread nD τ).loc main_arg3) ↦[Finset.univ \ (colR c).set]{fullShare} m ((c : Thread nD τ).loc main_arg3))) :=
  pointsTo_split_subset (Finset.subset_univ _)
omit [FloatOps F] in
theorem val_cols (c : Dev nD) : (Pt main_arg4 c (m ((c : Thread nD τ).loc main_arg4)) : sProp 𝕄)
    ⊣⊢ iprop(vcolP m c ∗ (((c : Thread nD τ).loc main_arg4) ↦[Finset.univ \ (colR c).set]{fullShare} m ((c : Thread nD τ).loc main_arg4))) :=
  pointsTo_split_subset (Finset.subset_univ _)

/-! ## From phase to phase -/

omit [FloatOps F] in
/-- What the barrier hands over: from each other device its slots for this one. -/
theorem given (c : Dev nD) : (bigSep (Finset.univ.erase c) fun d => givePay (F := F) c d)
    ⊢ iprop((bigSep Finset.univ fun q => off c q iprop(∃ f, scP (F := F) q c f)) ∗ bigSep Finset.univ fun q => off c q iprop(∃ f, bcP (F := F) q c f)) := by
  rw [erase_off]
  unfold givePay
  rw [offs_sep]

theorem snd_start (c : Dev nD) : iprop(ow c 8 0 0 ∗ (bigSep Finset.univ fun q => off c q (dutyTok ER (cell c (.inr (0, q))) 0 0))
    ∗ (bigSep Finset.univ fun q => off c q (dutyTok ER (cell q (.inr (1, c))) 0 0)) ∗ (bigSep Finset.univ fun q => off c q iprop(∃ f, scP (F := F) q c f)))
    ⊢ sndSt m ρ c 0 := by
  unfold sndSt
  rw [hi_all, lo_none, offs_sep, offs_sep, sep_emp_eq]

omit [FloatOps F] in
theorem red_toks (c : Dev nD) : iprop((bigSep Finset.univ fun q => off c q (dutyTok ER (cell c (.inr (2, q))) 0 0))
    ∗ (bigSep Finset.univ fun q => off c q (dutyTok ER (cell q (.inr (3, c))) 0 0)) ∗ (bigSep Finset.univ fun q => off c q iprop(∃ f, bcP (F := F) q c f)))
    ⊢ (bigSep Finset.univ fun q => off c q iprop(dutyTok ER (cell c (.inr (2, q))) 0 0 ∗ dutyTok ER (cell q (.inr (3, c))) 0 0 ∗ ∃ f, bcP (F := F) q c f) : sProp 𝕄) := by
  rw [offs_sep, offs_sep]

theorem arr_start (i : Fin 4) (c : Dev nD) : iprop((bigSep Finset.univ fun q => off c q (atPos ER (cell c (.inr (i, q))) 0 ∅ 0))
    ∗ (bigSep Finset.univ fun q => off c q (cred (tallyAt (cell c (.inr (i, q))) () nXf)))) ⊢ arr m ρ i c 0 := by
  unfold arr
  rw [hi_all, lo_none, offs_sep, sep_emp_eq]

omit [FloatOps F] in
theorem same (A : sProp 𝕄) : A ⊢ A := Entails.of_eq (rfl : A = A)
omit [FloatOps F] in
theorem cross (A B C D : sProp 𝕄) : iprop(A ∗ B ∗ C ∗ D) ⊢ iprop((C ∗ A) ∗ (D ∗ B)) := by
  iintro ⟨Hc, Hc', Ha, Ha'⟩
  isplitl [Hc Ha]
  · isplitl [Ha]; · iexact Ha
    iexact Hc
  · isplitl [Ha']; · iexact Ha'
    iexact Hc'

theorem drains_in (c : Dev nD) :
    iprop((bigSep Finset.univ fun q : Fin 8 => if q = c then pbP c q (pbF m ρ c) else cred (tallyAt (cell c (.inr (0, q))) () nXf))
      ∗ (bigSep Finset.univ fun q : Fin 8 => if q = c then bbP c q (bbF m ρ c) else cred (tallyAt (cell c (.inr (2, q))) () nXf))
      ∗ (bigSep Finset.univ fun q => off c q (atPos ER (cell c (.inr (0, q))) 0 ∅ 0))
      ∗ (bigSep Finset.univ fun q => off c q (atPos ER (cell c (.inr (2, q))) 0 ∅ 0))) ⊢ drains m ρ c := by
  unfold drains
  rw [← bigSep_sep', ← bigSep_sep', ← bigSep_sep']
  refine bigSep_mono fun q _ => ?_
  by_cases h : q = c
  · subst h
    rw [if_pos rfl, if_pos rfl, if_pos rfl, off_self, off_self, emp_sep_eq, sep_emp_eq]
    exact same _
  · rw [if_neg h, if_neg h, if_neg h, off_ne h, off_ne h]
    exact cross _ _ _ _

/-! ## Out of the pieces -/

theorem drained (c : Dev nD) : drSt m ρ c 8 ⊢ iprop(ow c 8 8 8 ∗ Pt cc0_scratch2 c (pbF m ρ c) ∗ Pt cc0_scratch4 c (bbF m ρ c)
    ∗ (bigSep Finset.univ fun q => off c q (semVal (cell c (.inr (0, q))) 0)) ∗ bigSep Finset.univ fun q => off c q (semVal (cell c (.inr (2, q))) 0)) := by
  unfold drSt
  rw [hi_none, lo_all, emp_sep_eq, bigSep_sep', bigSep_sep', offs_sep, ← pb_whole, ← bb_whole]
  iintro ⟨HO, ⟨Hp, Hb⟩, Hs, Hs'⟩
  isplitl [HO]; · iexact HO
  isplitl [Hp]; · iexact Hp
  isplitl [Hb]; · iexact Hb
  isplitl [Hs]; · iexact Hs
  iexact Hs'

theorem filled (c : Dev nD) : iprop(arr m ρ 3 c 8 ∗ (∃ f, bcP (F := F) c c f))
    ⊢ iprop((∃ f, Pt (F := F) cc0_scratch5 c f) ∗ bigSep Finset.univ fun q => off c q (semVal (cell c (.inr (3, q))) 0)) := by
  unfold arr
  rw [hi_none, emp_sep_eq, lo_all, offs_sep]
  iintro ⟨⟨Ho, Hs⟩, ⟨%f, Hc⟩⟩
  isplitr [Hs]
  · iapply (bc_join c f (bcF m ρ c))
    isplitl [Hc]; · iexact Hc
    iexact Ho
  · iexact Hs

/-! ## The body -/

set_option maxHeartbeats 1000000 in
/-- The body at device `c`, from its protocol's start to its end. -/
theorem sound_body (c : Dev nD) :
    iprop(known m ρ K ∗ ow c 0 0 0 ∗ toksOf (F := F) c ∗ posOf (F := F) c ∗ credsOf (F := F) c ∗ argsOf m c ∗ scratchOf (F := F) c
        ∗ Pt cc0_stg0_0 c (xstg m ρ c) ∗ Pt cc0_stg1_0 c (wqstg m ρ c) ∗ Pt cc0_stg2_0 c (wostg m ρ c) ∗ (∃ f, Pt (F := F) cc0_stg3_0 c f))
      ⊢ WP c (cc0_body (F := F) (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10) (fun _ => iprop(ow c 8 8 8 ∗ semsOf (F := F) c ∗ argsOf m c ∗ scratchOf (F := F) c
        ∗ Pt cc0_stg0_0 c (xstg m ρ c) ∗ Pt cc0_stg1_0 c (wqstg m ρ c) ∗ Pt cc0_stg2_0 c (wostg m ρ c) ∗ Pt cc0_stg3_0 c (outF m ρ c))) := by
  unfold toksOf posOf credsOf argsOf scratchOf semsOf
  rw [over_J, over_J, split_own c (fun q => atPos ER (cell c (.inr (0, q))) 0 ∅ 0), split_own c (fun q => atPos ER (cell c (.inr (1, q))) 0 ∅ 0),
    split_own c (fun q => atPos ER (cell c (.inr (2, q))) 0 ∅ 0), split_own c (fun q => atPos ER (cell c (.inr (3, q))) 0 ∅ 0),
    split_own c (fun q => semVal (cell c (.inr (0, q))) 0), split_own c (fun q => semVal (cell c (.inr (1, q))) 0),
    split_own c (fun q => semVal (cell c (.inr (2, q))) 0), split_own c (fun q => semVal (cell c (.inr (3, q))) 0)]
  rw [cc0_body_eq_skeleton]
  unfold cc0_body_skel
  iintro ⟨#HK, HO, ⟨Ht0, Ht1, Htb, Ht2, Ht3, Ht4, Ht5⟩, ⟨Hab, Hl0, Hl1, Hl2, ⟨Hi0, Ha0⟩, ⟨Hi1, Ha1⟩, ⟨Hi2, Ha2⟩, ⟨Hi3, Ha3⟩⟩, ⟨Hcb, Hc1, Hc3⟩, ⟨Hg3, Hg4⟩,
    ⟨Hw0, Hw1, Hw2, Hw3, Hw4, Hw5⟩, Hx, Hq, Ho, Hres⟩
  imod (idle_close m ρ K c (.inl 2) (fun h => h rfl)) $$ [Hl2] with Hz0
  · isplitr; · iexact HK
    iexact Hl2
  imod (idle_close m ρ K c (.inr (0, c)) (fun h => h rfl)) $$ [Hi0] with Hz1
  · isplitr; · iexact HK
    iexact Hi0
  imod (idle_close m ρ K c (.inr (1, c)) (fun h => h rfl)) $$ [Hi1] with Hz2
  · isplitr; · iexact HK
    iexact Hi1
  imod (idle_close m ρ K c (.inr (2, c)) (fun h => h rfl)) $$ [Hi2] with Hz3
  · isplitr; · iexact HK
    iexact Hi2
  imod (idle_close m ρ K c (.inr (3, c)) (fun h => h rfl)) $$ [Hi3] with Hz4
  · isplitr; · iexact HK
    iexact Hi3
  ihave Hkv := (kv_in c) $$ Hw0
  icases Hkv with ⟨Hk0, Hk1⟩
  ihave Hf := (p32_in m ρ c) $$ Hw1
  ihave Hb := (pb_in c) $$ Hw2
  ihave Hsc := (sc_in c) $$ Hw3
  icases Hsc with ⟨Hsc, Hscs⟩
  ihave Hbc := (bc_in c) $$ Hw5
  icases Hbc with ⟨Hbc, Hbcs⟩
  ihave Hout := (out_in m ρ c) $$ Hres
  ihave Hkc := (key_cols m c).1 $$ Hg3
  icases Hkc with ⟨Hkc, Hkr⟩
  ihave Hvc := (val_cols m c).1 $$ Hg4
  icases Hvc with ⟨Hvc, Hvr⟩
  ihave Hsig := (sig_start c) $$ [HO Htb Hscs Hbcs]
  · isplitl [HO]; · iexact HO
    isplitl [Htb]; · iexact Htb
    isplitl [Hscs]; · iexact Hscs
    iexact Hbcs
  iapply (wp_then c)
  iapply (part1_spec m ρ K c _)
  isplitr; · iexact HK
  isplitl [Hsig]; · iexact Hsig
  isplitl [Hkc]; · iexact Hkc
  isplitl [Hvc]; · iexact Hvc
  isplitl [Hk0]; · iexact Hk0
  isplitl [Hk1]; · iexact Hk1
  isplitl [Ht0]; · iexact Ht0
  isplitl [Ht1]; · iexact Ht1
  iintro ⟨Hsig, Hd0, Hd1⟩
  iapply (wp_then c)
  iapply (part2_spec m ρ K c _)
  isplitr; · iexact HK
  isplitl [Hsig]; · iexact Hsig
  isplitl [Hx]; · iexact Hx
  isplitl [Hq]; · iexact Hq
  isplitl [Hl0]; · iexact Hl0
  isplitl [Hl1]; · iexact Hl1
  isplitl [Hd0]; · iexact Hd0
  isplitl [Hd1]; · iexact Hd1
  iintro ⟨HO, Hx, Hq, Hk0, Hk1, Hkc, Hvc, Hs0, Hs1⟩
  iapply (wp_then c)
  iapply (part3_spec m c _ _ _)
  isplitl [Hk0 Hk1]
  · isplitl [Hk0]; · iexact Hk0
    iexact Hk1
  iintro ⟨Hk0, Hk1⟩
  iapply (wp_then c)
  iapply (part4_spec c _ _ _ _ _ _ _)
  iapply (wp_then c)
  iapply (part5_spec c _ _ _ _ _ _ _)
  iapply (wp_then c)
  iapply (part6_spec m ρ K c _ _ _ _ _ _ _ _ _ _ _ rfl _)
  isplitr; · iexact HK
  isplitl [HO]; · iexact HO
  isplitl [Ho]; · iexact Ho
  isplitl [Hab]; · iexact Hab
  isplitl [Hcb]; · iexact Hcb
  isplitl [Hf]; · iexact Hf
  isplitl [Hb]; · iexact Hb
  iintro ⟨HO, Ho, Hgive, Hsb, Hf, Hb, Hp⟩
  ihave Hgive := (given c) $$ Hgive
  icases Hgive with ⟨Hscs, Hbcs⟩
  ihave Hsnd := (snd_start m ρ c) $$ [HO Ht2 Ht3 Hscs]
  · isplitl [HO]; · iexact HO
    isplitl [Ht2]; · iexact Ht2
    isplitl [Ht3]; · iexact Ht3
    iexact Hscs
  iapply (wp_then c)
  iapply (part7_spec m ρ K c _)
  isplitr; · iexact HK
  isplitl [Hsnd]; · iexact Hsnd
  isplitl [Hp]; · iexact Hp
  isplitl [Hf]; · iexact Hf
  isplitl [Hb]; · iexact Hb
  iintro ⟨Hsnd, Hf, Hb⟩
  iapply (wp_then c)
  iapply (part8_spec m ρ K c _)
  isplitr; · iexact HK
  isplitl [Hsnd]; · iexact Hsnd
  isplitl [Hf]; · iexact Hf
  isplitl [Hb]; · iexact Hb
  iintro ⟨Hsnd, Hf, Hb⟩
  ihave Harr := (arr_start m ρ 1 c) $$ [Ha1 Hc1]
  · isplitl [Ha1]; · iexact Ha1
    iexact Hc1
  iapply (wp_then c)
  iapply (part9_spec m ρ K c _)
  isplitr; · iexact HK
  isplitl [Hsnd]; · iexact Hsnd
  isplitl [Hf]; · iexact Hf
  isplitl [Hb]; · iexact Hb
  isplitl [Hsc]; · iexact Hsc
  isplitl [Harr]; · iexact Harr
  iintro ⟨HO, Hsnd, Hf, Hsc, Harr⟩
  ihave Hf := (show p32St m ρ c (lo 8) ⊢ _ from lo_end ▸ p32_all m ρ c) $$ Hf
  iapply (wp_then c)
  iapply (part10_spec m ρ K c _)
  isplitr; · iexact HK
  isplitl [HO]; · iexact HO
  isplitl [Harr]; · iexact Harr
  isplitl [Hsc]; · iexact Hsc
  isplitl [Hf]; · iexact Hf
  iintro ⟨HO, Hg, Hsr, Hf⟩
  ihave Htok := (red_toks c) $$ [Ht4 Ht5 Hbcs]
  · isplitl [Ht4]; · iexact Ht4
    isplitl [Ht5]; · iexact Ht5
    iexact Hbcs
  iapply (wp_then c)
  iapply (part11_spec m ρ K c _)
  isplitr; · iexact HK
  isplitl [HO]; · iexact HO
  isplitl [Hg]; · iexact Hg
  isplitl [Hout]; · iexact Hout
  isplitl [Hw4]; · iexact Hw4
  isplitl [Htok]; · iexact Htok
  iintro ⟨Hred, Hg, Hout⟩
  ihave Harr := (arr_start m ρ 3 c) $$ [Ha3 Hc3]
  · isplitl [Ha3]; · iexact Ha3
    iexact Hc3
  iapply (wp_then c)
  iapply (part12_spec m ρ K c _ _)
  isplitr; · iexact HK
  isplitl [Hred]; · iexact Hred
  isplitl [Harr]; · iexact Harr
  isplitl [Hout]; · iexact Hout
  iintro ⟨Hfill, Hred⟩
  ihave Hdrs := (drains_in m ρ c) $$ [Hsnd Hred Ha0 Ha2]
  · isplitl [Hsnd]; · iexact Hsnd
    isplitl [Hred]; · iexact Hred
    isplitl [Ha0]; · iexact Ha0
    iexact Ha2
  iapply (wp_then c)
  iapply (part13_spec m ρ K c _)
  isplitr; · iexact HK
  isplitl [Hfill]; · iexact Hfill
  isplitl [Hdrs]; · iexact Hdrs
  iintro ⟨Hdr, Harr, Hout⟩
  iapply (drain_step m ρ K c 4 4 5 rfl rfl ((by decide : ∀ c, k0_cond45 c = 1#1 ↔ (4 : Fin 8) ≠ c) c) rfl rfl rfl _ _)
  isplitr; · iexact HK
  isplitl [Hdr]; · iexact Hdr
  iintro Hdr
  iapply (drain_step m ρ K c 5 5 6 rfl rfl ((by decide : ∀ c, k0_cond46 c = 1#1 ↔ (5 : Fin 8) ≠ c) c) rfl rfl rfl _ _)
  isplitr; · iexact HK
  isplitl [Hdr]; · iexact Hdr
  iintro Hdr
  iapply (drain_step m ρ K c 6 6 7 rfl rfl ((by decide : ∀ c, k0_cond47 c = 1#1 ↔ (6 : Fin 8) ≠ c) c) rfl rfl rfl _ _)
  isplitr; · iexact HK
  isplitl [Hdr]; · iexact Hdr
  iintro Hdr
  iapply (drain_step m ρ K c 7 7 8 rfl rfl ((by decide : ∀ c, k0_cond48 c = 1#1 ↔ (7 : Fin 8) ≠ c) c) rfl rfl rfl _ _)
  isplitr; · iexact HK
  isplitl [Hdr]; · iexact Hdr
  iintro Hdr
  ihave Hdr := (drained m ρ c) $$ Hdr
  icases Hdr with ⟨HO, Hp, Hbb, Hs3, Hs4⟩
  ihave Hfl := (filled m ρ c) $$ [Harr Hbc]
  · isplitl [Harr]; · iexact Harr
    iexact Hbc
  icases Hfl with ⟨Hbc, Hs5⟩
  ihave Hout := (out_all m ρ c) $$ Hout
  ihave Hkc := (key_cols m c).2 $$ [Hkc Hkr]
  · isplitl [Hkc]; · iexact Hkc
    iexact Hkr
  ihave Hvc := (val_cols m c).2 $$ [Hvc Hvr]
  · isplitl [Hvc]; · iexact Hvc
    iexact Hvr
  ihave Hkv := (Entails.of_eq (kv_whole c (kvF m c)).symm) $$ [Hk0 Hk1]
  · isplitl [Hk0]; · iexact Hk0
    iexact Hk1
  iapply (wp_done c _ _)
  isplitl [HO]; · iexact HO
  isplitl [Hsb Hs0 Hs1 Hz0 Hz1 Hs3 Hz2 Hsr Hz3 Hs4 Hz4 Hs5]
  · isplitl [Hsb]; · iexact Hsb
    isplitl [Hs0]; · iexact Hs0
    isplitl [Hs1]; · iexact Hs1
    isplitl [Hz0]; · iexact Hz0
    isplitl [Hz1 Hs3]
    · isplitl [Hz1]; · iexact Hz1
      iexact Hs3
    isplitl [Hz2 Hsr]
    · isplitl [Hz2]; · iexact Hz2
      iexact Hsr
    isplitl [Hz3 Hs4]
    · isplitl [Hz3]; · iexact Hz3
      iexact Hs4
    isplitl [Hz4]; · iexact Hz4
    iexact Hs5
  isplitl [Hkc Hvc]
  · isplitl [Hkc]; · iexact Hkc
    iexact Hvc
  isplitl [Hkv Hf Hp Hg Hbb Hbc]
  · isplitl [Hkv]; · iexists _; iexact Hkv
    isplitl [Hf]; · iexists _; iexact Hf
    isplitl [Hp]; · iexists _; iexact Hp
    isplitl [Hg]; · iexists _; iexact Hg
    isplitl [Hbb]; · iexists _; iexact Hbb
    iexact Hbc
  isplitl [Hx]; · iexact Hx
  isplitl [Hq]; · iexact Hq
  isplitl [Ho]; · iexact Ho
  iexact Hout

end Cert.Fused
-- ==== Proof.Fund.lean ====
/-
# What the launch deals each device
-/
module

public import proofs.«01_k».proof.Proof.Sound

@[expose] public section

set_option maxRecDepth 16384

noncomputable section

namespace Cert.Fused

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens minted -/

/-- A device's cells: its barrier and its own semaphores. -/
abbrev kcell (x : Dev nD × Option J) : GSem nD τ sig := x.2.elim (barCell x.1) (cell x.1)

theorem cell_eq {a b : Dev nD} {k l : J} (h : cell a k = cell b l) : a = b ∧ k = l := by
  refine ⟨congrArg (fun g : GSem nD τ sig => g.1.1) h, ?_⟩
  have h' := congrArg (fun g : GSem nD τ sig => useOf g.2) h
  simp only [useOf_osem] at h'
  exact Use.own.inj h'
theorem bar_eq {a b : Dev nD} (h : barCell a = barCell b) : a = b := congrArg (fun g : GSem nD τ sig => g.1.1) h
theorem cell_ne_bar (a b : Dev nD) (k : J) : cell a k ≠ barCell b := fun h => by cases congrArg Prod.snd h

theorem kcell_injective : Function.Injective kcell := by
  rintro ⟨c, _ | k⟩ ⟨c', _ | k'⟩ h
  · rw [show c = c' from bar_eq h]
  · exact absurd h.symm (cell_ne_bar _ _ _)
  · exact absurd h (cell_ne_bar _ _ _)
  · obtain ⟨rfl, rfl⟩ := cell_eq h; rfl

/-- One token for each pair of devices, of the one's barrier; one for each own semaphore. -/
abbrev tokOf : (Dev nD × Fin 8) ⊕ (Dev nD × J) → GSem nD τ sig × ℕ × Fin 8
  | .inl x => (barCell x.1, 0, x.2)
  | .inr x => (cell x.1 x.2, 0, 0)

theorem tokOf_injective : Function.Injective tokOf := by
  rintro (⟨c, d⟩ | ⟨c, k⟩) (⟨c', d'⟩ | ⟨c', k'⟩) h
  · have h₁ := bar_eq (congrArg Prod.fst h)
    have h₂ : d = d' := congrArg (fun x : GSem nD τ sig × ℕ × Fin 8 => x.2.2) h
    rw [show c = c' from h₁, h₂]
  · exact absurd (congrArg Prod.fst h).symm (cell_ne_bar _ _ _)
  · exact absurd (congrArg Prod.fst h) (cell_ne_bar _ _ _)
  · obtain ⟨rfl, rfl⟩ := cell_eq (congrArg Prod.fst h); rfl

def ringCells : Finset (GSem nD τ sig) := Finset.univ.map ⟨kcell, kcell_injective⟩
def ringToks : Finset (GSem nD τ sig × ℕ × Fin 8) := Finset.univ.map ⟨tokOf, tokOf_injective⟩

def u₀ : UU :=
  (Rounds.initOf (Pipeline.cells cfgs cellOf_inj) (Pipeline.launchToks cfgs cellOf_inj), Rounds.initOf ringCells ringToks)

/-- The tokens of device `c`'s own cells. -/
def toksAt (c : Dev nD) : sProp 𝕄 :=
  iprop((bigSep Finset.univ fun d : Fin 8 => dutyTok ER (barCell c) 0 d) ∗ bigSep Finset.univ fun k : J => dutyTok ER (cell c k) 0 0)

/-- What the launch deals device `c`. -/
def G (c : Dev nD) : sProp 𝕄 :=
  iprop((bigSep Finset.univ fun o : Option J => roundState ER (Rd m ρ) (kcell (c, o)) 0)
    ∗ (bigSep Finset.univ fun o : Option J => atPos ER (kcell (c, o)) 0 ∅ 0)
    ∗ (bigSep Finset.univ fun o : Option J => reached ER (kcell (c, o)) 0) ∗ toksAt c)

theorem fund_ring : BI.own (ER (Rounds.initOf ringCells ringToks)) ⊢ (|==> bigSep Finset.univ (G m ρ) : sProp 𝕄) := by
  have hX (Φ : GSem nD τ sig → sProp 𝕄) : bigSep ringCells Φ
      = bigSep Finset.univ fun c : Dev nD => bigSep Finset.univ fun o : Option J => Φ (kcell (c, o)) := by
    unfold ringCells; rw [bigSep_map, bigSep_univ_prod]; rfl
  have hT : bigSep ringToks (fun x => (dutyTok ER x.1 x.2.1 x.2.2 : sProp 𝕄)) = bigSep Finset.univ fun c : Dev nD => toksAt c := by
    unfold ringToks toksAt
    rw [bigSep_map, bigSep_univ_sum, bigSep_univ_prod, bigSep_univ_prod, bigSep_sep']
    rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-! ## The semaphores at the start and at the end -/

omit [FloatOps F] in
theorem over_opt (Φ : Option J → sProp 𝕄) : bigSep Finset.univ Φ = iprop(Φ none ∗ bigSep Finset.univ fun k => Φ (some k)) := by
  rw [bigSep_univ_at _ none, show Finset.univ.erase (none : Option J) = Finset.univ.map ⟨some, Option.some_injective _⟩ from by decide,
    bigSep_map]
  rfl

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun k : J => semVal (cell c k) 0 := rfl

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun o => iprop(∃ κ : ℕ, cellInv ER (Rd m ρ) κ (kcell (c, o))))
          ∗ (bigSep Finset.univ fun o : Option J => atPos ER (kcell (c, o)) 0 ∅ 0)
          ∗ (bigSep Finset.univ fun o : Option J => reached ER (kcell (c, o)) 0) ∗ toksAt c) := by
  have hv : iprop(unscopedSems0 c ∗ Pipeline.ownSems0 (Ix := Unit) (Name := ℕ) (U := UU) (Lvl := ℕ) (Val := Elt F) (τ := τ) osem c)
      ⊢ (bigSep Finset.univ fun o : Option J => semVal (kcell (c, o)) 0 : sProp 𝕄) :=
    Entails.of_eq (by rw [ownSems0_eq, unscopedSems0_eq, over_opt]; rfl)
  have ha : iprop((bigSep Finset.univ fun o : Option J => semVal (kcell (c, o)) 0) ∗ bigSep Finset.univ fun o : Option J => roundState ER (Rd m ρ) (kcell (c, o)) 0)
      ⊢ (|={Set.univ}=> bigSep Finset.univ fun o => iprop(∃ κ : ℕ, cellInv ER (Rd m ρ) κ (kcell (c, o))) : sProp 𝕄) := by
    rw [← bigSep_sep']
    exact (bigSep_mono fun o _ => (Rounds.body_intro ER (Rd m ρ) (kcell (c, o))).trans inv_alloc).trans (bigSep_fupd _ _)
  unfold G
  iintro ⟨Hos, Hus, Hst, Hat, Hr, Htok⟩
  ihave Hv := hv $$ [Hos Hus]
  · isplitl [Hus] <;> iassumption
  imod ha $$ [Hv Hst] with Hinv
  · isplitl [Hv] <;> iassumption
  imodintro
  isplitl [Hinv]; · iexact Hinv
  isplitl [Hat]; · iexact Hat
  isplitl [Hr]; · iexact Hr
  iexact Htok

/-! ## The tokens dealt -/

omit [FloatOps F] in
theorem off_of (c q : Fin 8) (A : sProp 𝕄) : A ⊢ off c q A := by
  by_cases h : q = c
  · subst h; rw [off_self]; iintro -; iempintro
  · rw [off_ne h]

omit [FloatOps F] in
theorem offs_of (c : Fin 8) (Φ : Fin 8 → sProp 𝕄) : bigSep Finset.univ Φ ⊢ bigSep Finset.univ fun q => off c q (Φ q) :=
  show bigSep Finset.univ Φ ⊢ bigSep Finset.univ fun q => off c q (Φ q) from exist_pieces fun q => off_of c q (Φ q)

omit [FloatOps F] in
/-- A device's tokens, sorted by what they are of. -/
theorem toks_sort (c : Dev nD) : (toksAt c : sProp 𝕄) ⊢ iprop((bigSep Finset.univ fun d : Fin 8 => dutyTok ER (barCell c) 0 d)
    ∗ (bigSep Finset.univ fun q => dutyTok ER (cell c (.inr (1, q))) 0 0)
    ∗ (bigSep Finset.univ fun q => dutyTok ER (cell c (.inr (3, q))) 0 0)
    ∗ dutyTok ER (cell c (.inl 0)) 0 0 ∗ dutyTok ER (cell c (.inl 1)) 0 0
    ∗ (bigSep Finset.univ fun q => dutyTok ER (cell c (.inr (0, q))) 0 0)
    ∗ (bigSep Finset.univ fun q => dutyTok ER (cell c (.inr (2, q))) 0 0)) := by
  unfold toksAt
  rw [over_J]
  iintro ⟨Hb, H0, H1, -, Ha, Hb1, Hc, Hd⟩
  isplitl [Hb]; · iexact Hb
  isplitl [Hb1]; · iexact Hb1
  isplitl [Hd]; · iexact Hd
  isplitl [H0]; · iexact H0
  isplitl [H1]; · iexact H1
  isplitl [Ha]; · iexact Ha
  iexact Hc

omit [FloatOps F] in
/-- A device's share once the tokens of barriers and of arrivals have gone to the devices that pay them. -/
theorem toks_kept (c : Dev nD) : iprop((bigSep Finset.univ fun q : Dev nD => (dutyTok ER (barCell q) 0 c : sProp 𝕄))
    ∗ (bigSep Finset.univ fun q : Dev nD => dutyTok ER (cell q (.inr (1, c))) 0 0)
    ∗ (bigSep Finset.univ fun q : Dev nD => dutyTok ER (cell q (.inr (3, c))) 0 0)
    ∗ dutyTok ER (cell c (.inl 0)) 0 0 ∗ dutyTok ER (cell c (.inl 1)) 0 0
    ∗ (bigSep Finset.univ fun q => dutyTok ER (cell c (.inr (0, q))) 0 0)
    ∗ (bigSep Finset.univ fun q => dutyTok ER (cell c (.inr (2, q))) 0 0)) ⊢ toksOf (F := F) c := by
  unfold toksOf
  iintro ⟨Hb, H1, H3, Hl0, Hl1, H0, H2⟩
  isplitl [Hl0]; · iexact Hl0
  isplitl [Hl1]; · iexact Hl1
  isplitl [Hb]; · iapply (offs_of c fun q => dutyTok ER (barCell q) 0 c) $$ Hb
  isplitl [H0]; · iapply (offs_of c fun q => dutyTok ER (cell c (.inr (0, q))) 0 0) $$ H0
  isplitl [H1]; · iapply (offs_of c fun q => dutyTok ER (cell q (.inr (1, c))) 0 0) $$ H1
  isplitl [H2]; · iapply (offs_of c fun q => dutyTok ER (cell c (.inr (2, q))) 0 0) $$ H2
  iapply (offs_of c fun q => dutyTok ER (cell q (.inr (3, c))) 0 0) $$ H3

omit [FloatOps F] in
theorem toks_dealt : (bigSep Finset.univ fun c : Dev nD => (toksAt c : sProp 𝕄)) ⊢ bigSep Finset.univ fun c : Dev nD => toksOf c := by
  refine ((exist_pieces toks_sort).trans ?_).trans (exist_pieces toks_kept)
  simp only [bigSep_sep']
  rw [bigSep_univ_comm fun (c : Dev nD) (d : Fin 8) => (dutyTok ER (barCell c) 0 d : sProp 𝕄),
    bigSep_univ_comm fun (c : Dev nD) (q : Fin 8) => (dutyTok ER (cell c (.inr (1, q))) 0 0 : sProp 𝕄),
    bigSep_univ_comm fun (c : Dev nD) (q : Fin 8) => (dutyTok ER (cell c (.inr (3, q))) 0 0 : sProp 𝕄)]

/-! ## The global step -/

/-- The cells' invariants and reached marks. -/
def marks (K : Dev nD × Option J → ℕ) : sProp 𝕄 :=
  bigSep Finset.univ fun x : Dev nD × Option J =>
    iprop(cellInv ER (Rd m ρ) (K x) (x.2.elim (barCell x.1) (cell x.1)) ∗ reached ER (x.2.elim (barCell x.1) (cell x.1)) 0)

instance marks_persistent (K : Dev nD × Option J → ℕ) : BI.Persistent (marks m ρ K) := by unfold marks; infer_instance

/-- What device `c` starts from, the levels and its credits aside. -/
def G' (c : Dev nD) : sProp 𝕄 := iprop((∃ K, marks m ρ K) ∗ toksOf (F := F) c ∗ posOf c)

theorem dealt (K : Dev nD × Option J → ℕ) (c : Dev nD) : iprop(marks m ρ K ∗ toksOf (F := F) c ∗ posOf c) ⊢ G' m ρ c := by
  unfold G'
  iintro ⟨HK, H⟩
  isplitl [HK]
  · iexists K; iexact HK
  · iexact H

theorem all_dealt (K : Dev nD × Option J → ℕ) :
    iprop(marks m ρ K ∗ bigSep Finset.univ fun c : Dev nD => iprop(toksOf (F := F) c ∗ posOf c)) ⊢ bigSep Finset.univ (G' m ρ) :=
  (sep_mono_left (BI.bigSep_of_persistent Finset.univ (marks m ρ K))).trans (by
    rw [← bigSep_sep']; exact exist_pieces fun c => dealt m ρ K c)

theorem regather :
    (bigSep Finset.univ fun c : Dev nD => iprop((bigSep Finset.univ fun o => iprop(∃ κ : ℕ, cellInv ER (Rd m ρ) κ (kcell (c, o))))
          ∗ (bigSep Finset.univ fun o : Option J => atPos ER (kcell (c, o)) 0 ∅ 0)
          ∗ (bigSep Finset.univ fun o : Option J => reached ER (kcell (c, o)) 0) ∗ toksAt c) : sProp 𝕄)
      ⊢ bigSep Finset.univ (G' m ρ) := by
  have hp : (bigSep Finset.univ fun c : Dev nD => bigSep Finset.univ fun o : Option J => (atPos ER (kcell (c, o)) 0 ∅ 0 : sProp 𝕄))
      = bigSep Finset.univ fun c : Dev nD => posOf c := bigSep_congr fun c _ => over_opt _
  have hm (K : Dev nD × Option J → ℕ) : iprop((bigSep Finset.univ fun x : Dev nD × Option J => (cellInv ER (Rd m ρ) (K x) (kcell x) : sProp 𝕄))
      ∗ bigSep Finset.univ fun x : Dev nD × Option J => reached ER (kcell x) 0) = marks m ρ K := (bigSep_sep' _ _ _).symm
  rw [bigSep_sep', bigSep_sep', bigSep_sep', ← bigSep_univ_prod (fun x : Dev nD × Option J => iprop(∃ κ : ℕ, cellInv ER (Rd m ρ) κ (kcell x))),
    ← bigSep_univ_prod (fun x : Dev nD × Option J => (reached ER (kcell x) 0 : sProp 𝕄)), hp]
  iintro ⟨HI, Hat, HR, Htok⟩
  ihave HK := (BI.bigSep_exists_pi Finset.univ (fun (x : Dev nD × Option J) (κ : ℕ) => (cellInv ER (Rd m ρ) κ (kcell x) : sProp 𝕄))) $$ HI
  icases HK with ⟨%K, HI⟩
  ihave Htk := (toks_dealt (F := F)) $$ Htok
  iapply (all_dealt m ρ K)
  isplitl [HI HR]
  · iapply (Entails.of_eq (hm K))
    isplitl [HI]; · iexact HI
    iexact HR
  · iapply (Entails.of_eq (bigSep_sep' Finset.univ (fun c : Dev nD => toksOf (F := F) c) (fun c => posOf c)).symm)
    isplitl [Htk]; · iexact Htk
    iexact Hat

theorem glob : (bigSep Finset.univ fun c => iprop(Pipeline.ownSems0 (Ix := Unit) (Name := ℕ) (U := UU) (Lvl := ℕ) (Val := Elt F) (τ := τ) osem c
      ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regather m ρ))

/-! ## The credits -/

/-- What device `d` owes at the launch. -/
abbrev O₀ (d : Dev nD) : CellTallies nD τ sig Unit := O d 0 0 0

theorem owe_at (d : Fin 8) (t : Fin 8 → GSem nD τ sig) (n : ℕ) (g : GSem nD τ sig) :
    owe d 0 (fun q => tallyAt (t q) () n) g () = ∑ q : Fin 8, if q ≠ d ∧ g = t q then n else 0 := by
  unfold owe
  rw [hi_zero, Finset.sum_apply, Finsupp.finset_sum_apply]
  refine Finset.sum_congr rfl fun q _ => ?_
  by_cases h : q = d
  · rw [if_pos h, if_neg fun h' => h'.1 h]; rfl
  · rw [if_neg h, tallyAt_apply]
    exact if_congr ⟨fun h' => ⟨h, h'.1⟩, fun h' => ⟨h'.2, rfl⟩⟩ rfl rfl

theorem O_at (d : Fin 8) (g : GSem nD τ sig) : O₀ d g () = (∑ q : Fin 8, if q ≠ d ∧ g = barCell q then 1 else 0)
    + (∑ q : Fin 8, if q ≠ d ∧ g = cell q (.inr (1, d)) then nXf else 0) + ∑ q : Fin 8, if q ≠ d ∧ g = cell q (.inr (3, d)) then nXf else 0 := by
  show O d 0 0 0 g () = _
  unfold O
  rw [Pi.add_apply, Finsupp.add_apply, Pi.add_apply, Finsupp.add_apply, owe_at, owe_at, owe_at]

theorem owed_bar (d c : Fin 8) : O₀ d (barCell c) () = if c ≠ d then 1 else 0 := by
  rw [O_at, Finset.sum_eq_zero (f := fun q => if q ≠ d ∧ barCell c = cell q (.inr (1, d)) then nXf else 0) fun q _ => if_neg fun h => cell_ne_bar _ _ _ h.2.symm,
    Finset.sum_eq_zero (f := fun q => if q ≠ d ∧ barCell c = cell q (.inr (3, d)) then nXf else 0) fun q _ => if_neg fun h => cell_ne_bar _ _ _ h.2.symm,
    Finset.sum_eq_single c (fun q _ h => if_neg fun h' => h (bar_eq h'.2).symm) fun h => absurd (Finset.mem_univ _) h]
  exact if_congr ⟨fun h => h.1, fun h => ⟨h, rfl⟩⟩ rfl rfl

theorem owed_own (i : Fin 4) (hi : i = 1 ∨ i = 3) (d c q : Fin 8) (hq : q ≠ c) :
    O₀ d (cell c (.inr (i, q))) () = if d = q then nXf else 0 := by
  have hn (j : Fin 4) (h : i ≠ j) : (∑ p : Fin 8, if p ≠ d ∧ cell c (.inr (i, q)) = cell p (.inr (j, d)) then nXf else 0) = 0 :=
    Finset.sum_eq_zero fun p _ => if_neg fun h' => h (congrArg Prod.fst (Sum.inr.inj (cell_eq h'.2).2))
  have hy : (∑ p : Fin 8, if p ≠ d ∧ cell c (.inr (i, q)) = cell p (.inr (i, d)) then nXf else 0) = if d = q then nXf else 0 := by
    rw [Finset.sum_eq_single c (fun p _ h => if_neg fun h' => h (cell_eq h'.2).1.symm) fun h => absurd (Finset.mem_univ _) h]
    exact if_congr ⟨fun h => (congrArg Prod.snd (Sum.inr.inj (cell_eq h.2).2)).symm, fun h => by subst h; exact ⟨hq.symm, rfl⟩⟩ rfl rfl
  rw [O_at, Finset.sum_eq_zero (f := fun p => if p ≠ d ∧ cell c (.inr (i, q)) = barCell p then 1 else 0) fun p _ => if_neg fun h => cell_ne_bar _ _ _ h.2]
  rcases hi with rfl | rfl
  · rw [hy, hn 3 (by decide)]; omega
  · rw [hy, hn 1 (by decide)]; omega

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_own (i : Fin 4) (hi : i = 1 ∨ i = 3) (c q : Dev nD) (hq : q ≠ c) :
    tallyOn (cell c (.inr (i, q))) (launchCredit (Pipeline.owing O₀) 0 (cell c (.inr (i, q)))) = (tallyAt (cell c (.inr (i, q))) () nXf : CellTallies nD τ sig Unit) := by
  unfold tallyAt; refine congrArg _ (Finsupp.ext fun u => ?_); cases u
  rw [Pipeline.launchCredit_owing, Finsupp.single_eq_same, Finset.sum_congr rfl fun d _ => owed_own i hi d c q hq, Finset.sum_ite_eq' Finset.univ q fun _ => nXf,
    if_pos (Finset.mem_univ _)]

omit [FloatOps F] in
theorem cred_off (i : Fin 4) (hi : i = 1 ∨ i = 3) (c q : Fin 8) :
    (cred (tallyOn (cell c (.inr (i, q))) (launchCredit (Pipeline.owing O₀) 0 (cell c (.inr (i, q))))) : sProp 𝕄)
      ⊢ off c q (cred (tallyAt (cell c (.inr (i, q))) () nXf)) := by
  by_cases h : q = c
  · exact (off_of c q _).trans (by subst h; rw [off_self, off_self])
  · rw [launch_own i hi c q h]; exact off_of c q _

theorem osem_injective : Function.Injective osem := fun k l h => by
  have h' := congrArg useOf h
  rw [useOf_osem, useOf_osem] at h'
  exact Use.own.inj h'

omit [FloatOps F] in
theorem creds (c : Dev nD) : (Pipeline.launchCred O₀ c : sProp 𝕄) ⊢ credsOf (F := F) c := by
  let Φ : SemLoc sig → sProp 𝕄 := fun sm => cred (tallyOn ((c : Thread nD τ), sm) (launchCredit (Pipeline.owing O₀) 0 ((c : Thread nD τ), sm)))
  have h₁ : bigSep (Finset.univ.erase (SemLoc.reg barS)) Φ ⊢ bigSep (Finset.univ.map ⟨osem, osem_injective⟩) Φ :=
    bigSep_subset fun x hx => by
      obtain ⟨k, -, h⟩ := Finset.mem_map.mp hx
      rw [← h]
      exact Finset.mem_erase.mpr ⟨fun h => (nomatch h), Finset.mem_univ _⟩
  have h₂ : bigSep (Finset.univ.map ⟨osem, osem_injective⟩) Φ = bigSep Finset.univ fun k => Φ (osem k) := bigSep_map _
  have h₃ (i : Fin 4) (hi : i = 1 ∨ i = 3) : (bigSep Finset.univ fun q => Φ (osem (.inr (i, q))))
      ⊢ bigSep Finset.univ fun q => off c q (cred (tallyAt (cell c (.inr (i, q))) () nXf)) :=
    exist_pieces fun q => cred_off i hi c q
  rw [h₂, over_J] at h₁
  unfold Pipeline.launchCred credsOf
  rw [bigSep_univ_at _ (SemLoc.reg barS), launch_bar]
  refine sep_mono_right ?_
  have h₄ : iprop(Φ (osem (.inl 0)) ∗ Φ (osem (.inl 1)) ∗ Φ (osem (.inl 2)) ∗ (bigSep Finset.univ fun q => Φ (osem (.inr (0, q))))
      ∗ (bigSep Finset.univ fun q => Φ (osem (.inr (1, q)))) ∗ (bigSep Finset.univ fun q => Φ (osem (.inr (2, q))))
      ∗ bigSep Finset.univ fun q => Φ (osem (.inr (3, q))))
      ⊢ iprop((bigSep Finset.univ fun q => off c q (cred (tallyAt (cell c (.inr (1, q))) () nXf)))
        ∗ bigSep Finset.univ fun q => off c q (cred (tallyAt (cell c (.inr (3, q))) () nXf))) := by
    iintro ⟨-, -, -, -, H1, -, H3⟩
    isplitl [H1]
    · iapply (h₃ 1 (Or.inl rfl)) $$ H1
    · iapply (h₃ 3 (Or.inr rfl)) $$ H3
  exact h₁.trans h₄

end Cert.Fused
-- ==== Proof.Run.lean ====
/-
# The run on the eight devices
-/
module

public import proofs.«01_k».proof.Proof.Fund
public import Idealize.ShloMosaic.Lib.Pipeline.CollectiveSegs

@[expose] public section

set_option maxRecDepth 16384

noncomputable section

namespace Cert.Fused

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The schedule's data -/

theorem fin_N (t : Fin cfg0.N) : t = t0_0 := fin_N0 t

def Φ₀ (c : Dev nD) : sProp 𝕄 :=
  iprop((∃ K, known m ρ K) ∗ toksOf (F := F) c ∗ posOf c ∗ credsOf c ∗ argsOf m c ∗ scratchOf c)
def Φ₁ (c : Dev nD) : sProp 𝕄 := iprop(semsOf c ∗ argsOf m c ∗ scratchOf c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wqstg m ρ c
    | ⟨2, _⟩ => wostg m ρ c
    | ⟨3, _⟩ => outF m ρ c
  Φ t := match t with
    | ⟨0, _⟩ => Φ₀ m ρ c
    | ⟨_ + 1, _⟩ => Φ₁ m c
  q _ := fullShare
  owed t := match t with
    | ⟨0, _⟩ => O₀ c
    | ⟨_ + 1, _⟩ => 0

theorem O_end (c : Dev nD) : O c 8 8 8 = 0 := by
  unfold O; rw [owe_end, owe_end, owe_end, add_zero, add_zero]

/-- A staging buffer held whole at contents `X`. -/
abbrev stg (c : Dev nD) (b : Ref sig .tc) (X : b.ty.Contents (Elt F)) : sProp 𝕄 :=
  iprop(∃ f : Buf (Elt F) ((c : Thread nD τ).loc b), ⌜f = X⌝ ∗ Pt b c f)

omit [FloatOps F] in
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

omit [FloatOps F] in
theorem stg_in (c : Dev nD) (b : Ref sig .tc) (X Y : b.ty.Contents (Elt F)) (h : X = Y) : (stg c b X : sProp 𝕄) ⊢ Pt b c Y := by
  subst h
  iintro ⟨%f, %hf, H⟩
  subst hf
  iexact H

omit [FloatOps F] in
theorem stg_out (c : Dev nD) (b : Ref sig .tc) (X : b.ty.Contents (Elt F)) : (Pt b c X : sProp 𝕄) ⊢ stg c b X := by
  iintro H
  iexists X
  isplitr; · ipureintro; rfl
  iexact H

omit [FloatOps F] in
theorem stg_any (c : Dev nD) (b : Ref sig .tc) (X : b.ty.Contents (Elt F)) : (stg c b X : sProp 𝕄) ⊢ iprop(∃ f, Pt (F := F) b c f) := by
  iintro ⟨%f, -, H⟩
  iexists f; iexact H

def bodyPre (c : Dev nD) : sProp 𝕄 :=
  iprop(Φ₀ m ρ c ∗ (dats m ρ 0 c).owesAt () t0_0.castSucc
    ∗ (∃ d, stg c cc0_stg0_0 ((dats m ρ 0 c).before (0 : Fin 4) t0_0 d)) ∗ (∃ d, stg c cc0_stg1_0 ((dats m ρ 0 c).before (1 : Fin 4) t0_0 d))
    ∗ (∃ d, stg c cc0_stg2_0 ((dats m ρ 0 c).before (2 : Fin 4) t0_0 d)) ∗ (∃ d, stg c cc0_stg3_0 ((dats m ρ 0 c).before (3 : Fin 4) t0_0 d)))

def bodyPost (c : Dev nD) : sProp 𝕄 :=
  iprop(Φ₁ m c ∗ (dats m ρ 0 c).owesAt () t0_0.succ
    ∗ stg c cc0_stg0_0 (xstg m ρ c) ∗ stg c cc0_stg1_0 (wqstg m ρ c) ∗ stg c cc0_stg2_0 (wostg m ρ c) ∗ stg c cc0_stg3_0 (outF m ρ c))

theorem before_x (c : Dev nD) (d) : (dats m ρ 0 c).before (0 : Fin 4) t0_0 d = xstg m ρ c := by
  unfold Dat.before; rw [if_pos (fetch0_0 t0_0)]; rfl
theorem before_wq (c : Dev nD) (d) : (dats m ρ 0 c).before (1 : Fin 4) t0_0 d = wqstg m ρ c := by
  unfold Dat.before; rw [if_pos (fetch0_1 t0_0)]; rfl
theorem before_wo (c : Dev nD) (d) : (dats m ρ 0 c).before (2 : Fin 4) t0_0 d = wostg m ρ c := by
  unfold Dat.before; rw [if_pos (fetch0_2 t0_0)]; rfl

theorem owes_in (c : Dev nD) : (dats m ρ 0 c).owesAt () t0_0.castSucc ⊢ (ow c 0 0 0 : sProp 𝕄) := by
  unfold Dat.owesAt Pipeline.owesWithin ow
  rw [show (dats m ρ 0 c).owed t0_0.castSucc = O c 0 0 0 from rfl]
  iintro ⟨%W, -, H⟩
  iexists W; iexact H
theorem owes_out (c : Dev nD) : (ow c 8 8 8 : sProp 𝕄) ⊢ (dats m ρ 0 c).owesAt () t0_0.succ := by
  unfold Dat.owesAt Pipeline.owesWithin ow
  rw [show (dats m ρ 0 c).owed t0_0.succ = 0 from rfl, O_end]
  iintro ⟨%W, H⟩
  iexists W
  isplitr; · ipureintro; exact fun _ _ => Or.inl trivial
  iexact H

theorem body_in (c : Dev nD) : bodyPre m ρ c ⊢ iprop(∃ K, known m ρ K ∗ ow c 0 0 0 ∗ toksOf (F := F) c ∗ posOf c ∗ credsOf c ∗ argsOf m c ∗ scratchOf c
    ∗ Pt cc0_stg0_0 c (xstg m ρ c) ∗ Pt cc0_stg1_0 c (wqstg m ρ c) ∗ Pt cc0_stg2_0 c (wostg m ρ c) ∗ (∃ f, Pt (F := F) cc0_stg3_0 c f)) := by
  unfold bodyPre Φ₀
  iintro ⟨⟨⟨%K, HK⟩, Ht, Hp, Hc, Ha, Hs⟩, Ho, ⟨%d0, H0⟩, ⟨%d1, H1⟩, ⟨%d2, H2⟩, ⟨%d3, H3⟩⟩
  iexists K
  isplitl [HK]; · iexact HK
  isplitl [Ho]; · iapply (owes_in m ρ c) $$ Ho
  isplitl [Ht]; · iexact Ht
  isplitl [Hp]; · iexact Hp
  isplitl [Hc]; · iexact Hc
  isplitl [Ha]; · iexact Ha
  isplitl [Hs]; · iexact Hs
  isplitl [H0]; · iapply (stg_in c cc0_stg0_0 _ _ (before_x m ρ c d0)) $$ H0
  isplitl [H1]; · iapply (stg_in c cc0_stg1_0 _ _ (before_wq m ρ c d1)) $$ H1
  isplitl [H2]; · iapply (stg_in c cc0_stg2_0 _ _ (before_wo m ρ c d2)) $$ H2
  iapply (stg_any c cc0_stg3_0 _) $$ H3

theorem body_out (c : Dev nD) : iprop(ow c 8 8 8 ∗ semsOf c ∗ argsOf m c ∗ scratchOf c
    ∗ Pt cc0_stg0_0 c (xstg m ρ c) ∗ Pt cc0_stg1_0 c (wqstg m ρ c) ∗ Pt cc0_stg2_0 c (wostg m ρ c) ∗ Pt cc0_stg3_0 c (outF m ρ c)) ⊢ bodyPost m ρ c := by
  unfold bodyPost Φ₁
  iintro ⟨Ho, Hz, Ha, Hs, H0, H1, H2, H3⟩
  isplitl [Hz Ha Hs]
  · isplitl [Hz]; · iexact Hz
    isplitl [Ha] <;> iassumption
  isplitl [Ho]; · iapply (owes_out m ρ c) $$ Ho
  isplitl [H0]; · iapply (stg_out c cc0_stg0_0 (xstg m ρ c)) $$ H0
  isplitl [H1]; · iapply (stg_out c cc0_stg1_0 (wqstg m ρ c)) $$ H1
  isplitl [H2]; · iapply (stg_out c cc0_stg2_0 (wostg m ρ c)) $$ H2
  iapply (stg_out c cc0_stg3_0 (outF m ρ c)) $$ H3

theorem body_sound (c : Dev nD) : bodyPre m ρ c ⊢ WP c (cc0_body (F := F) (Memref.whole cc0_stg0_0) (Memref.isWhole_whole _) (Memref.whole cc0_stg1_0) (Memref.isWhole_whole _) (Memref.whole cc0_stg2_0) (Memref.isWhole_whole _) (Memref.whole main_arg3) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10) (fun _ => bodyPost m ρ c) :=
  (body_in m ρ c).trans (by
    iintro ⟨%K, H⟩
    iapply ((sound_body m ρ K c).trans (wp_mono _ _ _ fun _ => body_out m ρ c))
    iexact H)

omit [FloatOps F] in
theorem over_W (Φ : Fin cfg0.W → sProp 𝕄) : bigSep Finset.univ Φ = iprop(Φ (0 : Fin 4) ∗ Φ (1 : Fin 4) ∗ Φ (2 : Fin 4) ∗ Φ (3 : Fin 4)) := bigSep_W0 Φ

theorem body_obligation (c : Dev nD) : BodyObligation (dats (F := F) m ρ 0 c) (defs₀ (F := F)) 𝒱₀ () Set.univ := fun t => by
  rw [fin_N t, over_W, over_W]
  simp only [owns_stg]
  exact body_sound m ρ c

/-! ## The launch's side conditions -/

theorem ownSemFacts : Pipeline.OwnSemFacts cfg0.spec osem := by decide

theorem share_eq (c : Dev nD) (w : Fin cfg0.W) : (dats m ρ 0 c).share w = fullShare := by unfold Dat.share; split <;> rfl

/-- What the region starts from, its own buffers aside. -/
def start (c : Dev nD) : sProp 𝕄 := iprop((∃ K, known m ρ K) ∗ toksOf (F := F) c ∗ posOf c ∗ credsOf c ∗ argsOf m c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  have ha : (Pipeline.unscopedRestP Pipeline.Prefetch.none cfg0.spec c (fun b => m ((c : Thread nD τ).loc b)) : sProp 𝕄) = argsOf m c := by
    rw [Pipeline.unscopedRestP_none]; exact unscopedRest0_eq c _
  rw [ha]
  unfold start G'
  iintro ⟨Ha, Hlev, Hcr, -, ⟨%K, HK⟩, Ht, Hp⟩
  ihave Hc := (creds (F := F) c) $$ Hcr
  imodintro
  isplitl
  · isplitl [HK Hlev]
    · iexists K
      unfold known
      isplitl [HK]
      · unfold marks; iexact HK
      · iexact Hlev
    isplitl [Ht]; · iexact Ht
    isplitl [Hp]; · iexact Hp
    isplitl [Hc]; · iexact Hc
    iexact Ha
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, show (Pipeline.scopedRest cfg0.spec c : sProp 𝕄) = scratchOf c from scopedRest0_eq c]
  unfold Φ₀ start
  iintro ⟨⟨HK, Ht, Hp, Hc, Ha⟩, -, Hs⟩
  isplitl [HK]; · iexact HK
  isplitl [Ht]; · iexact Ht
  isplitl [Hp]; · iexact Hp
  isplitl [Hc]; · iexact Hc
  isplitl [Ha] <;> iassumption

theorem phi1_exit (c : Dev nD) :
    (dats m ρ 0 c).Φ (Fin.last cfg0.N) ⊢ iprop((unscopedSems0 c ∗ argsOf m c) ∗ Pipeline.ownSems0 osem c ∗ Pipeline.scopedRest cfg0.spec c) := by
  rw [show (dats m ρ 0 c).Φ (Fin.last cfg0.N) = Φ₁ m c from rfl, show (Pipeline.scopedRest cfg0.spec c : sProp 𝕄) = scratchOf c from scopedRest0_eq c,
    ownSems0_eq, unscopedSems0_eq]
  unfold Φ₁ semsOf
  iintro ⟨⟨Hb, Hz⟩, Ha, Hs⟩
  isplitl [Hb Ha]
  · isplitl [Hb] <;> iassumption
  isplitl [Hz] <;> iassumption

omit [FloatOps F] in
theorem wait_stage (c : Dev nD) (sm : SemLoc sig) (h : lvOf (useOf sm) = 0) (o : CellTallies nD τ sig Unit) (ho : o = O₀ c ∨ o = 0) :
    (levAts L lv : sProp 𝕄) ⊢ MayWait (c : Thread nD τ) sm () o := by
  rcases ho with rfl | rfl
  · exact mayWait c sm 0 0 0 (fun _ => by rw [h]; decide) (fun _ => by rw [h]; decide) (fun _ => by rw [h]; decide)
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    wait_stage c _ (by fin_cases w <;> fin_cases s <;> decide) _ (by
      rcases t with ⟨_ | _, ht⟩
      · exact Or.inl rfl
      · exact Or.inr rfl)

/-! ## The run -/

/-- A window's array when the region is done. -/
def finalA (c : Dev nD) (w : Fin cfg0.W) : Buf (Elt F) ((cfg0.win w).arr.view.loc (c : Thread nD τ)) := (dats m ρ 0 c).arrAt w cfg0.N

/-- Every window's array is the computed one, and the two weights outside the windows are as they were. -/
def Ended (s : MemSt nD τ sig (Elt F)) : Prop :=
  ∀ c : Dev nD, (∀ w : Fin cfg0.W, s.mem ((cfg0.win w).arr.view.loc (c : Thread nD τ)) = finalA m ρ c w)
    ∧ s.mem ((c : Thread nD τ).loc main_arg3) = m ((c : Thread nD τ).loc main_arg3)
    ∧ s.mem ((c : Thread nD τ).loc main_arg4) = m ((c : Thread nD τ).loc main_arg4)

omit [FloatOps F] in
theorem read_args (c : Dev nD) (s' : Phys nD τ sig (Elt F)) : iprop(argsOf m c ∗ SI s')
    ⊢ iprop(⌜s'.mem.mem ((c : Thread nD τ).loc main_arg3) = m ((c : Thread nD τ).loc main_arg3)
        ∧ s'.mem.mem ((c : Thread nD τ).loc main_arg4) = m ((c : Thread nD τ).loc main_arg4)⌝ ∗ SI s') := by
  unfold argsOf
  iintro ⟨⟨H3, H4⟩, HSI⟩
  icombine HSI H3 gives %h3
  icombine HSI H4 gives %h4
  isplitr
  · ipureintro
    exact ⟨funext fun i => h3 i (Finset.mem_univ _), funext fun i => h4 i (Finset.mem_univ _)⟩
  · iexact HSI

/-- On the eight devices, for any float values, from any memory with zero counters: every weakly fair execution of the
    program terminates, with each device's result array at the computed contents, the arguments unchanged and every semaphore at zero. -/
theorem run_main : θ_run defs (onTc (τ := τ) (main (F := F))) (s₀ m ρ) (fun r => Ended m ρ r.2 ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => iprop(unscopedSems0 c ∗ argsOf m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg3) = m ((c : Thread nD τ).loc main_arg3)
      ∧ s.mem ((c : Thread nD τ).loc main_arg4) = m ((c : Thread nD τ).loc main_arg4))
    (hY := fun c s' => by
      iintro ⟨⟨Hu, Ha⟩, -, HSI⟩
      ihave H := (read_args m c s') $$ [Ha HSI]
      · isplitl [Ha] <;> iassumption
      icases H with ⟨%h, HSI⟩
      imod (Pipeline.unscopedSems0_read (X := unscopedSems0 c) (c := c) fupd_intro s') $$ [Hu HSI] with ⟨%h', HSI⟩
      · isplitl [Hu] <;> iassumption
      imodintro
      isplitr; · ipureintro; exact ⟨h', h⟩
      iexact HSI)
    (hQ := fun _ h hs => ⟨fun c => ⟨(h c).1, (h c).2.2.2⟩, sem_eq_zero hs fun c => (h c).2.2.1⟩)

/-- The staged arguments end as they were. -/
theorem final_in (c : Dev nD) : finalA m ρ c (0 : Fin 4) = m ((c : Thread nD τ).loc main_arg0)
    ∧ finalA m ρ c (1 : Fin 4) = m ((c : Thread nD τ).loc main_arg1) ∧ finalA m ρ c (2 : Fin 4) = m ((c : Thread nD τ).loc main_arg2) :=
  ⟨(dats (F := F) m ρ 0 c).arrAt_in (0 : Fin 4) rfl _, (dats (F := F) m ρ 0 c).arrAt_in (1 : Fin 4) rfl _, (dats (F := F) m ρ 0 c).arrAt_in (2 : Fin 4) rfl _⟩

/-- The result array's one block, the whole array, is what the body left in its staging buffer. -/
theorem final_out (c : Dev nD) : (win0_3.blk (0 : Fin 1)).view.read (Elt F) (finalA m ρ c (3 : Fin 4)) = outF m ρ c := by
  unfold finalA
  rw [show cfg0.N = ((0 : Fin 1) : Fin cfg0.N).val + 1 from rfl, (dats m ρ 0 c).arrAt_succ (3 : Fin 4) (0 : Fin 1)]
  rw [show (cfg0.win (3 : Fin 4)).flush (0 : Fin 1) = true from by decide, if_pos rfl]
  exact View.read_write_univ _ _

end Cert.Fused
-- ==== Proof.Softmax.lean ====
/-
# Softmax attention of one head, over the extended reals

The mathematics that both programs compute: the scaled scores of 256 queries against 256 keys of 128 entries, their
exponentials after the row's maximum is taken off, and the weighted mean of the values.
-/
module

public import Idealize.ShloMosaic.Lib.Pointwise

@[expose] public section

set_option maxRecDepth 16384

noncomputable section

namespace Cert.Attention

open Idealize.ShloMosaic

/-- The score of query `i` against key `j`: their product times `1 / √128`, as the float constant has it. -/
def score (q k : Fin 256 → Fin 128 → EReal) (i j : Fin 256) : EReal :=
  (∑ e, q i e * k j e) * Ideal.ofBits .f32 0x3DB504F3#32

/-- The largest score of a row, from the constant that the programs start from. -/
def peak (q k : Fin 256 → Fin 128 → EReal) (i : Fin 256) : EReal :=
  Finset.univ.fold max (Ideal.ofBits .f32 0xFF800000#32) (score q k i)

/-- The weight of key `j` for query `i`, not yet normalised. -/
def weight (q k : Fin 256 → Fin 128 → EReal) (i j : Fin 256) : EReal :=
  Ideal.exp (score q k i j - peak q k i)

/-- The head's output: the values' weighted sum over the weights' sum. -/
def head (q k v : Fin 256 → Fin 128 → EReal) (i : Fin 256) (d : Fin 128) : EReal :=
  Ideal.div (∑ j, weight q k i j * v j d) (∑ j, weight q k i j)

/-- Head `h` of 64 from the whole arrays: its query columns are `128 h …`; keys and values are shared by four heads. -/
def headOf (x : (⟨3, ![1, 256, 1024]⟩ : Shape).Idx → EReal) (wq : (⟨2, ![1024, 8192]⟩ : Shape).Idx → EReal)
    (wk wv : (⟨2, ![1024, 2048]⟩ : Shape).Idx → EReal) (h : Fin 64) : Fin 256 → Fin 128 → EReal :=
  head (fun i e => ∑ l : Fin 1024, x (ix3 0 i l) * wq (ix2 l ⟨h.val * 128 + e.val, by omega⟩))
    (fun i e => ∑ l : Fin 1024, x (ix3 0 i l) * wk (ix2 l ⟨h.val / 4 * 128 + e.val, by omega⟩))
    (fun i e => ∑ l : Fin 1024, x (ix3 0 i l) * wv (ix2 l ⟨h.val / 4 * 128 + e.val, by omega⟩))

/-- The result's entry: the heads side by side, times the output weights. -/
def entry (x : (⟨3, ![1, 256, 1024]⟩ : Shape).Idx → EReal) (wq : (⟨2, ![1024, 8192]⟩ : Shape).Idx → EReal)
    (wo : (⟨2, ![8192, 1024]⟩ : Shape).Idx → EReal) (wk wv : (⟨2, ![1024, 2048]⟩ : Shape).Idx → EReal)
    (i : Fin 256) (n : Fin 1024) : EReal :=
  ∑ l : Fin 8192, headOf x wq wk wv ⟨l.val / 128, by omega⟩ i ⟨l.val % 128, by omega⟩ * wo (ix2 l n)

/-- The maximum of a fold with its own start is the fold. -/
theorem max_fold {ι : Type} [Fintype ι] (b : EReal) (f : ι → EReal) :
    max b (Finset.univ.fold max b f) = Finset.univ.fold max b f :=
  max_eq_right ((Finset.le_fold_max b).2 (.inl le_rfl))

/-- What the running sum starts from, scaled, adds nothing. -/
theorem zero_mul_add (a b : EReal) : 0 * a + b = b := by rw [zero_mul, zero_add]

/-- A device's own part and the parts of the others, its own slot left zero, add up to all of them. -/
theorem own_add (f : Fin 8 → EReal) (c : Fin 8) :
    f c + (if (0 : Fin 8) = c then 0 else f 0) + (if (1 : Fin 8) = c then 0 else f 1) +
      (if (2 : Fin 8) = c then 0 else f 2) + (if (3 : Fin 8) = c then 0 else f 3) +
      (if (4 : Fin 8) = c then 0 else f 4) + (if (5 : Fin 8) = c then 0 else f 5) +
      (if (6 : Fin 8) = c then 0 else f 6) + (if (7 : Fin 8) = c then 0 else f 7) = ∑ j, f j := by
  rw [← Finset.add_sum_erase Finset.univ f (Finset.mem_univ c),
    Finset.sum_congr (g := fun j => if j = c then (0 : EReal) else f j) rfl
      (fun j hj => (if_neg (Finset.ne_of_mem_erase hj)).symm),
    Finset.sum_erase Finset.univ (f := fun j => if j = c then (0 : EReal) else f j) (if_pos rfl), Fin.sum_univ_eight]
  simp only [add_assoc]

end Cert.Attention
-- ==== Proof.Dense.lean ====
/-
# What the reference computes

Its composed result cut into stages, each stage read at an index, and the whole entry by entry.
-/
module

public import proofs.«01_k».proof.Proof.Gen.ReferenceIdeal.Run
public import proofs.«01_k».proof.Proof.Softmax

@[expose] public section

set_option maxRecDepth 16384

noncomputable section

namespace Cert.Dense

open Cert.ReferenceIdeal Cert.ReferenceIdeal.Gen
open Idealize.ShloMosaic
open Idealize.ShloMosaic.TcCoe
open Idealize.SL Idealize.SL.Sem

variable {F : FTy → Type} [FloatOps F]

/-- The queries of all 64 heads. -/
def queries (x : FVec F S1x256x1024 .f32) (w : FVec F S1024x8192 .f32) : FVec F S1x256x64x128 .f32 :=
  shapeCast _ (Host.dotGeneral dot_S1x256x1024_S1024x8192_S1x256x8192_2_0_01_1_n_n none x w) shapeCasts_S1x256x8192_S1x256x64x128

/-- The keys (or the values) of the 16 groups, each repeated for its four heads. -/
def repeated (x : FVec F S1x256x1024 .f32) (w : FVec F S1024x2048 .f32) : FVec F S1x256x64x128 .f32 :=
  shapeCast _ (broadcastInDim S1x256x16x4x128 ![0, 1, 2, 4] bcast_S1x256x16x128_S1x256x16x4x128_0_1_2_4
    (shapeCast _ (Host.dotGeneral dot_S1x256x1024_S1024x2048_S1x256x2048_2_0_01_1_n_n none x w)
      shapeCasts_S1x256x2048_S1x256x16x128)) shapeCasts_S1x256x16x4x128_S1x256x64x128

/-- The scaled scores. -/
def scaled (q k : FVec F S1x256x64x128 .f32) : FVec F S1x64x256x256 .f32 :=
  mulf (Host.dotGeneral dot_S1x256x64x128_S1x256x64x128_S1x64x256x256_3_3_1_1_02_02 none q k)
    (broadcastInDim S1x64x256x256 ![] bcast_S_S1x64x256x256 (constant S_ .f32 0x3DB504F3#32))

/-- What the running maximum starts from. -/
def fillMin : FVec F S1x64x256x1 .f32 := broadcastInDim S1x64x256x1 ![] bcast_S_S1x64x256x1 (constant S_ .f32 0xFF800000#32)

/-- The scores' row maxima, … -/
def peak (s : FVec F S1x64x256x256 .f32) : FVec F S1x64x256 .f32 :=
  Host.reduce FloatOps.maximumf s (constant S_ .f32 0xFF800000#32) reducesTo_S1x64x256x256_S1x64x256_d3 h_S_

/-- … no smaller than what the running maximum starts from, … -/
def atLeast (p : FVec F S1x64x256 .f32) : FVec F S1x64x256x1 .f32 :=
  maximumf fillMin (broadcastInDim S1x64x256x1 ![0, 1, 2] bcast_S1x64x256_S1x64x256x1_0_1_2 p)

/-- … together. -/
def rowMax (s : FVec F S1x64x256x256 .f32) : FVec F S1x64x256x1 .f32 := atLeast (peak s)

/-- What the running sums are scaled by when the maximum moves. -/
def decay (s : FVec F S1x64x256x256 .f32) : FVec F S1x64x256x1 .f32 := Host.exp (subf fillMin (rowMax s))

/-- The weights, not yet normalised. -/
def probs (s : FVec F S1x64x256x256 .f32) : FVec F S1x64x256x256 .f32 :=
  Host.exp (subf s (broadcastInDim S1x64x256x256 ![0, 1, 2, 3] bcast_S1x64x256x1_S1x64x256x256_0_1_2_3 (rowMax s)))

/-- The weights' running sum. -/
def total (s : FVec F S1x64x256x256 .f32) : FVec F S1x64x256x1 .f32 :=
  addf (mulf (broadcastInDim S1x64x256x1 ![] bcast_S_S1x64x256x1 (constant S_ .f32 0x00000000#32)) (decay s))
    (broadcastInDim S1x64x256x1 ![0, 1, 2] bcast_S1x64x256_S1x64x256x1_0_1_2
      (Host.reduceAdd (probs s) (constant S_ .f32 0x00000000#32) reducesTo_S1x64x256x256_S1x64x256_d3 h_S_))

/-- The weighted values' running sum. -/
def mixed (s : FVec F S1x64x256x256 .f32) (v : FVec F S1x256x64x128 .f32) : FVec F S1x256x64x128 .f32 :=
  addf (mulf (broadcastInDim S1x256x64x128 ![] bcast_S_S1x256x64x128 (constant S_ .f32 0x00000000#32))
      (broadcastInDim S1x256x64x128 ![0, 1, 2, 3] bcast_S1x256x64x1_S1x256x64x128_0_1_2_3
        (transpose S1x256x64x1 [0, 2, 1, 3] (decay s) transposes_S1x64x256x1_S1x256x64x1_0_2_1_3)))
    (transpose S1x256x64x128 [0, 3, 1, 2]
      (Host.dotGeneral dot_S1x256x64x128_S1x64x256x256_S1x64x128x256_1_3_3_2_02_01 none v (probs s))
      transposes_S1x64x128x256_S1x256x64x128_0_3_1_2)

/-- The heads. -/
def heads (s : FVec F S1x64x256x256 .f32) (v : FVec F S1x256x64x128 .f32) : FVec F S1x256x64x128 .f32 :=
  Host.divf (mixed s v) (broadcastInDim S1x256x64x128 ![0, 1, 2, 3] bcast_S1x256x64x1_S1x256x64x128_0_1_2_3
    (transpose S1x256x64x1 [0, 2, 1, 3] (total s) transposes_S1x64x256x1_S1x256x64x1_0_2_1_3))

/-- The heads side by side, times the output weights. -/
def result (a : FVec F S1x256x64x128 .f32) (w : FVec F S8192x1024 .f32) : FVec F S1x256x1024 .f32 :=
  Host.dotGeneral dot_S1x256x8192_S8192x1024_S1x256x1024_2_0_01_1_n_n none (shapeCast _ a shapeCasts_S1x256x64x128_S1x256x8192) w

/-- The program's result, by these stages. -/
theorem res_stages (m : (ℓ : Loc nD τ sig) → Buf (Elt F) ℓ) (c : Dev nD) :
    Value.res_out0 m c = result (heads
      (scaled (queries (m ((c : Thread nD τ).loc main_arg0)) (m ((c : Thread nD τ).loc main_arg1)))
        (repeated (m ((c : Thread nD τ).loc main_arg0)) (m ((c : Thread nD τ).loc main_arg3))))
      (repeated (m ((c : Thread nD τ).loc main_arg0)) (m ((c : Thread nD τ).loc main_arg4))))
      (m ((c : Thread nD τ).loc main_arg2)) := rfl

/-- Each of them at an index: -/
theorem queries_at (x : FVec Ideal S1x256x1024 .f32) (w : FVec Ideal S1024x8192 .f32) (i : Fin 256) (h : Fin 64) (d : Fin 128) :
    queries (F := Ideal) x w (ix4 0 i h d) = ∑ l : Fin 1024, x (ix3 0 i l) * w (ix2 l ⟨h.val * 128 + d.val, by omega⟩) := by
  pointwise [queries]

theorem repeated_at (x : FVec Ideal S1x256x1024 .f32) (w : FVec Ideal S1024x2048 .f32) (i : Fin 256) (h : Fin 64) (d : Fin 128) :
    repeated (F := Ideal) x w (ix4 0 i h d) =
      ∑ l : Fin 1024, x (ix3 0 i l) * w (ix2 l ⟨(h.val / 4) * 128 + d.val, by omega⟩) := by
  pointwise [repeated]

theorem scaled_at (q k : FVec Ideal S1x256x64x128 .f32) (h : Fin 64) (i j : Fin 256) :
    scaled (F := Ideal) q k (ix4 0 h i j) =
      (∑ e : Fin 128, q (ix4 0 i h e) * k (ix4 0 j h e)) * Ideal.ofBits .f32 0x3DB504F3#32 := by
  pointwise [scaled]

theorem peak_at (s : FVec Ideal S1x64x256x256 .f32) (h : Fin 64) (i : Fin 256) :
    peak (F := Ideal) s (ix3 0 h i) =
      Finset.univ.fold max (Ideal.ofBits .f32 0xFF800000#32) fun j : Fin 256 => s (ix4 0 h i j) := by
  pointwise [peak]

theorem atLeast_at (p : FVec Ideal S1x64x256 .f32) (h : Fin 64) (i : Fin 256) :
    atLeast (F := Ideal) p (ix4 0 h i 0) = max (α := EReal) (Ideal.ofBits .f32 0xFF800000#32) (p (ix3 0 h i)) := by
  pointwise [atLeast, fillMin]

theorem rowMax_at (s : FVec Ideal S1x64x256x256 .f32) (h : Fin 64) (i : Fin 256) :
    rowMax (F := Ideal) s (ix4 0 h i 0) =
      Finset.univ.fold max (Ideal.ofBits .f32 0xFF800000#32) fun j : Fin 256 => s (ix4 0 h i j) := by
  rw [rowMax, atLeast_at, peak_at, Attention.max_fold]

theorem probs_at (s : FVec Ideal S1x64x256x256 .f32) (h : Fin 64) (i j : Fin 256) :
    probs (F := Ideal) s (ix4 0 h i j) = Ideal.exp (s (ix4 0 h i j) - rowMax (F := Ideal) s (ix4 0 h i 0)) := by
  pointwise [probs]

theorem total_at (s : FVec Ideal S1x64x256x256 .f32) (h : Fin 64) (i : Fin 256) :
    total (F := Ideal) s (ix4 0 h i 0) = ∑ j : Fin 256, probs (F := Ideal) s (ix4 0 h i j) := by
  pointwise [total]
  exact Attention.zero_mul_add _ _

theorem mixed_at (s : FVec Ideal S1x64x256x256 .f32) (v : FVec Ideal S1x256x64x128 .f32) (i : Fin 256) (h : Fin 64) (d : Fin 128) :
    mixed (F := Ideal) s v (ix4 0 i h d) = ∑ j : Fin 256, v (ix4 0 j h d) * probs (F := Ideal) s (ix4 0 h i j) := by
  pointwise [mixed]
  exact Attention.zero_mul_add _ _

theorem heads_at (s : FVec Ideal S1x64x256x256 .f32) (v : FVec Ideal S1x256x64x128 .f32) (i : Fin 256) (h : Fin 64) (d : Fin 128) :
    heads (F := Ideal) s v (ix4 0 i h d) =
      Ideal.div (mixed (F := Ideal) s v (ix4 0 i h d)) (total (F := Ideal) s (ix4 0 h i 0)) := by
  pointwise [heads]

theorem result_at (a : FVec Ideal S1x256x64x128 .f32) (w : FVec Ideal S8192x1024 .f32) (i : Fin 256) (n : Fin 1024) :
    result (F := Ideal) a w (ix3 0 i n) =
      ∑ l : Fin 8192, a (ix4 0 i ⟨l.val / 128, by omega⟩ ⟨l.val % 128, by omega⟩) * w (ix2 l n) := by
  pointwise [result]
/-- A head of the program is the attention of its queries, keys and values. -/
theorem heads_head (q k v : FVec Ideal S1x256x64x128 .f32) (i : Fin 256) (h : Fin 64) (d : Fin 128) :
    heads (F := Ideal) (scaled (F := Ideal) q k) v (ix4 0 i h d) =
      Attention.head (fun i e => q (ix4 0 i h e)) (fun i e => k (ix4 0 i h e)) (fun i e => v (ix4 0 i h e)) i d := by
  have hs : ∀ i j, scaled (F := Ideal) q k (ix4 0 h i j) =
      Attention.score (fun i e => q (ix4 0 i h e)) (fun i e => k (ix4 0 i h e)) i j := fun i j => scaled_at q k h i j
  have hp : ∀ i j, probs (F := Ideal) (scaled (F := Ideal) q k) (ix4 0 h i j) =
      Attention.weight (fun i e => q (ix4 0 i h e)) (fun i e => k (ix4 0 i h e)) i j := fun i j => by
    rw [probs_at, rowMax_at]
    simp only [hs]
    rfl
  rw [heads_at, mixed_at, total_at]
  simp only [hp]
  rw [Attention.head]
  refine congrArg (Ideal.div · _) (Finset.sum_congr rfl fun j _ => mul_comm _ _)

/-- The program's result, entry by entry. -/
theorem result_entry (x : FVec Ideal S1x256x1024 .f32) (wq : FVec Ideal S1024x8192 .f32) (wo : FVec Ideal S8192x1024 .f32)
    (wk wv : FVec Ideal S1024x2048 .f32) (i : Fin 256) (n : Fin 1024) :
    result (F := Ideal) (heads (F := Ideal) (scaled (F := Ideal) (queries (F := Ideal) x wq) (repeated (F := Ideal) x wk))
        (repeated (F := Ideal) x wv)) wo (ix3 0 i n) =
      Attention.entry x wq wo wk wv i n := by
  rw [result_at]
  refine Finset.sum_congr rfl fun l _ => ?_
  rw [heads_head]
  simp only [queries_at, repeated_at]
  rfl

end Cert.Dense
-- ==== Proof.Heads.lean ====
/-
# The attention block of a device, over the extended reals

What one head's block computes, the eight of them side by side, and which heads of the whole they are.
-/
module

public import proofs.«01_k».proof.Proof.Common
public import proofs.«01_k».proof.Proof.Softmax

@[expose] public section

set_option maxRecDepth 16384

noncomputable section

namespace Cert.Fused

open Cert.KernelIdeal Cert.KernelIdeal.Gen
open Idealize.ShloMosaic
open Idealize.ShloMosaic.TcCoe
open Idealize.SL Idealize.SL.Sem

/-- What one head's block of the program computes. -/
theorem pay16_at (q k v : FVec Ideal S256x128 .bf16) (i : Fin 256) (d : Fin 128) :
    k0_pay16 (F := Ideal) q k v (ix2 i d) =
      Attention.head (fun i e => q (ix2 i e)) (fun i e => k (ix2 i e)) (fun i e => v (ix2 i e)) i d := by
  pointwise [k0_pay16]
  rfl

/-- The queries, … -/
theorem q_at (x : FVec Ideal S1x256x1024 .f32) (w : FVec Ideal S1024x1024 .f32) (i : Fin 256) (n : Fin 1024) :
    k0_pay2 (F := Ideal) x w (ix2 i n) = ∑ l : Fin 1024, x (ix3 0 i l) * w (ix2 l n) := by
  pointwise [k0_pay2, k0_pay1]

/-- … the keys … -/
theorem k_at (x : FVec Ideal S1x256x1024 .f32) (w : FVec Ideal S1x1024x256 .f32) (i : Fin 256) (n : Fin 256) :
    k0_pay3 (F := Ideal) (k0_pay1 x) w (ix2 i n) = ∑ l : Fin 1024, x (ix3 0 i l) * w (ix3 0 l n) := by
  pointwise [k0_pay3, k0_pay1]

/-- … and the values of a device. -/
theorem v_at (x : FVec Ideal S1x256x1024 .f32) (w : FVec Ideal S1x1024x256 .f32) (i : Fin 256) (n : Fin 256) :
    k0_pay4 (F := Ideal) (k0_pay1 x) w (ix2 i n) = ∑ l : Fin 1024, x (ix3 0 i l) * w (ix3 0 l n) := by
  pointwise [k0_pay4, k0_pay1]

/-- The columns of head `h` are a slice, … -/
theorem slices_head (h : Fin 8) : Shape.Slices S256x1024 ![0, 128 * h.val] S256x128 := by
  revert h; decide

/-- … and those of its keys and values. -/
theorem slices_group (h : Fin 8) : Shape.Slices S256x256 ![0, 128 * (h.val / 4)] S256x128 := by
  revert h; decide

variable {F : FTy → Type} [FloatOps F] in
/-- Head `h` of a device, from its queries, keys and values. -/
def headBlock (q : FVec F S256x1024 .f32) (k v : FVec F S256x256 .f32) (h : Fin 8) : FVec F S256x128 .f32 :=
  k0_pay16 (truncf .bf16 (extractStridedSlice S256x128 ![0, 128 * h.val] q (slices_head h)) bitsLt_bf16_f32)
    (truncf .bf16 (extractStridedSlice S256x128 ![0, 128 * (h.val / 4)] k (slices_group h)) bitsLt_bf16_f32)
    (truncf .bf16 (extractStridedSlice S256x128 ![0, 128 * (h.val / 4)] v (slices_group h)) bitsLt_bf16_f32)

variable {F : FTy → Type} [FloatOps F] in
set_option maxHeartbeats 1000000 in
/-- The attention block is the eight heads side by side, rounded. -/
theorem attn_heads (x : Vec F S1x256x1024 .f32) (wq : Vec F S1024x1024 .f32) (k v : Vec F S1x1024x256 .f32) :
    attn x wq k v =
      let b := headBlock (k0_pay2 x wq) (k0_pay3 (k0_pay1 x) k) (k0_pay4 (k0_pay1 x) v)
      truncf .bf16 (concatenate S256x1024 1 [⟨S256x128, b 0⟩, ⟨S256x128, b 1⟩, ⟨S256x128, b 2⟩, ⟨S256x128, b 3⟩,
        ⟨S256x128, b 4⟩, ⟨S256x128, b 5⟩, ⟨S256x128, b 6⟩, ⟨S256x128, b 7⟩]
        concatenates_S256x128_S256x128_S256x128_S256x128_S256x128_S256x128_S256x128_S256x128_S256x1024_d1) bitsLt_bf16_f32 := rfl

/-- Head `h` at an index. -/
theorem headBlock_at (q : FVec Ideal S256x1024 .f32) (k v : FVec Ideal S256x256 .f32) (h : Fin 8) (i : Fin 256) (d : Fin 128) :
    headBlock q k v h (ix2 i d) =
      Attention.head (fun i e => q (ix2 i ⟨128 * h.val + e.val, by omega⟩))
        (fun i e => k (ix2 i ⟨128 * (h.val / 4) + e.val, by omega⟩))
        (fun i e => v (ix2 i ⟨128 * (h.val / 4) + e.val, by omega⟩)) i d := by
  rw [headBlock, pay16_at]
  pointwise

/-- The attention block at an index: its columns `128 h …` are head `h`. -/
theorem attn_at (x : FVec Ideal S1x256x1024 .f32) (wq : FVec Ideal S1024x1024 .f32) (k v : FVec Ideal S1x1024x256 .f32)
    (h : Fin 8) (i : Fin 256) (d : Fin 128) :
    attn (F := Ideal) x wq k v (ix2 i ⟨128 * h.val + d.val, by omega⟩) =
      headBlock (F := Ideal) (k0_pay2 x wq) (k0_pay3 (k0_pay1 x) k) (k0_pay4 (k0_pay1 x) v) h (ix2 i d) := by
  rw [attn_heads]
  pointwise
  have key : ∀ (j : Fin 8) (e : Fin 128), 128 * j.val + e.val = 128 * h.val + d.val →
      headBlock (F := Ideal) (k0_pay2 x wq) (k0_pay3 (k0_pay1 x) k) (k0_pay4 (k0_pay1 x) v) j (ix2 i e) =
        headBlock (F := Ideal) (k0_pay2 x wq) (k0_pay3 (k0_pay1 x) k) (k0_pay4 (k0_pay1 x) v) h (ix2 i d) := by
    intro j e hje
    obtain rfl : j = h := Fin.ext (by omega)
    obtain rfl : e = d := Fin.ext (by omega)
    rfl
  repeat' split
  all_goals
    refine key _ _ ?_
    simp only [Fin.isValue, Fin.val_ofNat, Nat.reduceMod, Nat.reduceMul]
    omega

/-- With the query columns `1024 c …` and the key and value columns `256 c …` of the whole weights, head `h` of device
    `c` is head `8 c + h` of all. -/
theorem attn_headOf (X : FVec Ideal S1x256x1024 .f32) (Wq : (⟨2, ![1024, 8192]⟩ : Shape).Idx → EReal)
    (Wk Wv : (⟨2, ![1024, 2048]⟩ : Shape).Idx → EReal) (c : Fin 8)
    (wq : FVec Ideal S1024x1024 .f32) (k v : FVec Ideal S1x1024x256 .f32)
    (hq : ∀ (l : Fin 1024) (n : Fin 1024), wq (ix2 l n) = Wq (ix2 l ⟨c.val * 1024 + n.val, by omega⟩))
    (hk : ∀ (l : Fin 1024) (n : Fin 256), k (ix3 0 l n) = Wk (ix2 l ⟨256 * c.val + n.val, by omega⟩))
    (hv : ∀ (l : Fin 1024) (n : Fin 256), v (ix3 0 l n) = Wv (ix2 l ⟨256 * c.val + n.val, by omega⟩))
    (h : Fin 8) (i : Fin 256) (d : Fin 128) :
    attn (F := Ideal) X wq k v (ix2 i ⟨128 * h.val + d.val, by omega⟩) =
      Attention.headOf X Wq Wk Wv ⟨8 * c.val + h.val, by omega⟩ i d := by
  rw [attn_at, headBlock_at, Attention.headOf]
  have eq : ∀ (e : Fin 128), (⟨c.val * 1024 + (128 * h.val + e.val), by omega⟩ : Fin 8192) =
      ⟨(8 * c.val + h.val) * 128 + e.val, by omega⟩ := fun e => Fin.ext (by dsimp only; omega)
  have ek : ∀ (e : Fin 128), (⟨256 * c.val + (128 * (h.val / 4) + e.val), by omega⟩ : Fin 2048) =
      ⟨(8 * c.val + h.val) / 4 * 128 + e.val, by omega⟩ := fun e => Fin.ext (by dsimp only; omega)
  simp only [q_at, k_at, v_at, hq, hk, hv, eq, ek]

end Cert.Fused
-- ==== Proof.Total.lean ====
/-
# The reduced result of a device, over the extended reals

Every device's partial product, the sum of the eight as each device gathers them, and the whole result that every
device ends with: one row's entry is the sum, over devices, of that device's attention block times its output weights.
-/
module

public import proofs.«01_k».proof.Proof.Views
public import proofs.«01_k».proof.Proof.Softmax

@[expose] public section

set_option maxRecDepth 16384

noncomputable section

namespace Cert.Fused

open Cert.KernelIdeal Cert.KernelIdeal.Gen
open Idealize.ShloMosaic
open Idealize.ShloMosaic.TcCoe
open Idealize.SL Idealize.SL.Sem

variable (m : (ℓ : Loc nD τ sig) → Buf (Elt Ideal) ℓ) (ρ : Dev nD → PrngReg)

/-- The two spellings of an index. -/
theorem ix2_same {a b : ℕ} (i : Fin a) (j : Fin b) : ValueIdx.ix2 i j = ix2 i j := rfl
theorem ix3_same {a b c : ℕ} (i : Fin a) (j : Fin b) (k : Fin c) : ValueIdx.ix3 i j k = ix3 i j k := rfl

/-- The entry of device `j`'s partial product. -/
def part (j : Dev nD) (i : Fin 256) (n : Fin 1024) : EReal :=
  ∑ l : Fin 1024, (show EReal from attnV m ρ j (ix2 i l)) * (show EReal from woV m ρ j (ix2 l n))

/-- A chunk of it, as stored … -/
theorem chunkF_at (a : FVec Ideal S256x1024 .bf16) (w : FVec Ideal S1024x1024 .bf16) (p : Fin 8) (r : Fin 32) (n : Fin 1024) :
    chunkF (F := Ideal) a w p (ix2 r n) =
      ∑ l : Fin 1024, a (ix2 (⟨32 * p.val + r.val, by omega⟩ : Fin 256) l) * w (ix2 l n) := by
  pointwise [chunkF, chunkP]

/-- … and as sent. -/
theorem chunkB_at (a : FVec Ideal S256x1024 .bf16) (w : FVec Ideal S1024x1024 .bf16) (p : Fin 8) (r : Fin 32) (n : Fin 1024) :
    chunkB (F := Ideal) a w p (ix2 r n) =
      ∑ l : Fin 1024, a (ix2 (⟨32 * p.val + r.val, by omega⟩ : Fin 256) l) * w (ix2 l n) := by
  pointwise [chunkB, chunkP]

/-- The sum that a device forms of its own rows and its eight slots. -/
theorem reduce_at (o : FVec Ideal S32x1024 .f32) (s0 s1 s2 s3 s4 s5 s6 s7 : FVec Ideal S1x32x1024 .bf16) (r : Fin 32) (n : Fin 1024) :
    k0_pay50 (F := Ideal) (k0_pay48 o s0 s1) (k0_pay49 s2) s3 s4 s5 s6 s7 (ix2 r n) =
      o (ix2 r n) + s0 (ix3 0 r n) + s1 (ix3 0 r n) + s2 (ix3 0 r n) + s3 (ix3 0 r n) + s4 (ix3 0 r n) + s5 (ix3 0 r n) +
        s6 (ix3 0 r n) + s7 (ix3 0 r n) := by
  pointwise [k0_pay50, k0_pay48, k0_pay49]

/-- Rounding it changes nothing here. -/
theorem redB_at (c : Dev nD) (r : Fin 32) (n : Fin 1024) : redB m ρ c (ix2 r n) = redF m ρ c (ix2 r n) := by
  pointwise [redB, k0_pay51]
  rfl

/-- A device's own slot holds zeros. -/
theorem zero_at (r : Fin 32) (n : Fin 1024) : k0_pay47 (F := Ideal) (ix3 0 r n) = 0 := by
  pointwise [k0_pay47]

/-- An arrived slot is written out as it is. -/
theorem widen_at (v : FVec Ideal S1x32x1024 .bf16) (r : Fin 32) (n : Fin 1024) :
    k0_pay52 (F := Ideal) v (ix2 r n) = v (ix3 0 r n) := by
  pointwise [k0_pay52]

/-- A row is where its chunk and its place in the chunk say. -/
theorem row_back (i : Fin 256) : (⟨32 * (rowDiv i).val + (rowMod i).val, by omega⟩ : Fin 256) = i :=
  Fin.ext (by simp only [rowDiv, rowMod]; omega)

/-- The partial product at a row. -/
theorem p32_at (c : Dev nD) (i : Fin 256) (n : Fin 1024) : p32F m ρ c (ix2 i n) = part m ρ c i n := by
  show chunkF (attnV m ρ c) (woV m ρ c) (rowDiv i) (ix2 (rowMod i) n) = _
  rw [chunkF_at, row_back]
  rfl

/-- The rows of its own partial product. -/
theorem own_at (c : Dev nD) (r : Fin 32) (n : Fin 1024) :
    ownV m ρ c (ix2 r n) = part m ρ c ⟨32 * c.val + r.val, by have : c.val < 8 := c.isLt; omega⟩ n := by
  show p32F m ρ c ((rowR c).emb (ix2 r n)) = _
  rw [emb_rowR]
  exact p32_at m ρ c _ n

/-- A slot: the other devices' rows, its own slot zero. -/
theorem slot_at (c : Dev nD) (j : Fin 8) (r : Fin 32) (n : Fin 1024) :
    scV m ρ c j (ix3 0 r n) = if j = c then (0 : EReal) else
      part m ρ j ⟨32 * c.val + r.val, by have : c.val < 8 := c.isLt; omega⟩ n := by
  show scF m ρ c ((slotR j).emb (ix3 0 r n)) = _
  rw [emb_slotR]
  show (if j.val = c.val then k0_pay47 (F := Ideal) (ix3 0 r n)
    else chunkB (attnV m ρ j) (woV m ρ j) c (ix2 r n)) = _
  by_cases h : j = c
  · rw [if_pos h, if_pos (congrArg Fin.val h), zero_at]
  · rw [if_neg h, if_neg (fun e => h (Fin.ext e)), chunkB_at]
    rfl

/-- The reduced rows are the sum of all the devices' parts. -/
theorem red_at (c : Dev nD) (r : Fin 32) (n : Fin 1024) :
    redF m ρ c (ix2 r n) = ∑ j, part m ρ j ⟨32 * c.val + r.val, by have : c.val < 8 := c.isLt; omega⟩ n := by
  rw [redF, reduce_at]
  simp only [own_at, slot_at]
  exact Attention.own_add (fun j => part m ρ j ⟨32 * c.val + r.val, by have : c.val < 8 := c.isLt; omega⟩ n) c

/-- Every device's result is that sum, whichever device reduced the row. -/
theorem out_at (c : Dev nD) (i : Fin 256) (n : Fin 1024) :
    outF m ρ c (ix3 0 i n) = ∑ j, part m ρ j i n := by
  have h : ∀ p : Fin 8, p = rowDiv i → redF m ρ p (ix2 (rowMod i) n) = ∑ j, part m ρ j i n := by
    rintro p rfl
    rw [red_at]
    refine Finset.sum_congr rfl fun j _ => congrArg (part m ρ j · n) (row_back i)
  show (if (rowDiv i).val = c.val then redF m ρ c (ix2 (rowMod i) n)
    else k0_pay52 (bcV m ρ c (rowDiv i)) (ix2 (rowMod i) n)) = _
  by_cases e : (rowDiv i).val = c.val
  · rw [if_pos e]
    exact h c (Fin.ext e.symm)
  · rw [if_neg e, widen_at]
    show bcF m ρ c ((slotR (rowDiv i)).emb (ix3 0 (rowMod i) n)) = _
    rw [emb_slotR]
    exact (redB_at m ρ (rowDiv i) (rowMod i) n).trans (h _ rfl)

end Cert.Fused
-- ==== Proof.Whole.lean ====
/-
# What every device ends with is the reference's result

The blocks that the devices take of the whole arrays, and the sum over devices of their parts as one sum over the
heads' 8192 columns.
-/
module

public import proofs.«01_k».proof.Proof.Heads
public import proofs.«01_k».proof.Proof.Total
public import proofs.«01_k».proof.Proof.Run
public import Idealize.ShloMosaic.Lib.Layout

@[expose] public section

set_option maxRecDepth 16384

noncomputable section

namespace Cert.Fused

open Cert.KernelIdeal Cert.KernelIdeal.Gen
open Idealize.ShloMosaic
open Idealize.ShloMosaic.TcCoe
open Idealize.SL Idealize.SL.Sem

variable (m : (ℓ : Loc nD τ sig) → Buf (Elt Ideal) ℓ) (ρ : Dev nD → PrngReg)

/-- The staged blocks are the whole argument arrays. -/
theorem xstg_eq (c : Dev nD) : xstg m ρ c = m ((c : Thread nD τ).loc main_arg0) := by
  have hz : (fun a => (win0_0.index (0 : Fin 1)) a * main_arg0.ty.shape.size a) = fun _ => 0 :=
    funext fun a => by fin_cases a <;> decide
  exact Memref.read_access_unit_zero (Elt Ideal) main_arg0 hz (fun a => by fin_cases a <;> decide) _
theorem wqstg_eq (c : Dev nD) : wqstg m ρ c = m ((c : Thread nD τ).loc main_arg1) := by
  have hz : (fun a => (win0_1.index (0 : Fin 1)) a * main_arg1.ty.shape.size a) = fun _ => 0 :=
    funext fun a => by fin_cases a <;> decide
  exact Memref.read_access_unit_zero (Elt Ideal) main_arg1 hz (fun a => by fin_cases a <;> decide) _
theorem wostg_eq (c : Dev nD) : wostg m ρ c = m ((c : Thread nD τ).loc main_arg2) := by
  have hz : (fun a => (win0_2.index (0 : Fin 1)) a * main_arg2.ty.shape.size a) = fun _ => 0 :=
    funext fun a => by fin_cases a <;> decide
  exact Memref.read_access_unit_zero (Elt Ideal) main_arg2 hz (fun a => by fin_cases a <;> decide) _

/-- The result's block is the whole result array. -/
theorem finalA_eq (c : Dev nD) : finalA m ρ c (3 : Fin 4) = outF m ρ c := by
  have hz : (fun a => (win0_3.index (0 : Fin 1)) a * main_v1.ty.shape.size a) = fun _ => 0 :=
    funext fun a => by fin_cases a <;> decide
  have h := final_out m ρ c
  exact (Memref.read_access_unit_zero (Elt Ideal) main_v1 hz (fun a => by fin_cases a <;> decide) _).symm.trans h

/-- The output weights, as the product takes them. -/
theorem woV_at (c : Dev nD) (l n : Fin 1024) : woV m ρ c (ix2 l n) = wostg m ρ c (ix2 l n) := by
  pointwise [woV, k0_pay21]

/-- The key and the value columns that a device takes. -/
theorem kvV_key (c : Dev nD) (l : Fin 1024) (n : Fin 256) :
    kvV m c 0 (ix3 0 l n) = (show S1024x2048.Idx → Elt Ideal .f32 from m ((c : Thread nD τ).loc main_arg3))
      (ix2 l ⟨256 * c.val + n.val, by have : c.val < 8 := c.isLt; omega⟩) := by
  show kvF m c ((kvR 0).emb (ix3 0 l n)) = _
  rw [emb_kvR]
  exact if_pos rfl
theorem kvV_value (c : Dev nD) (l : Fin 1024) (n : Fin 256) :
    kvV m c 1 (ix3 0 l n) = (show S1024x2048.Idx → Elt Ideal .f32 from m ((c : Thread nD τ).loc main_arg4))
      (ix2 l ⟨256 * c.val + n.val, by have : c.val < 8 := c.isLt; omega⟩) := by
  show kvF m c ((kvR 1).emb (ix3 0 l n)) = _
  rw [emb_kvR]
  exact if_neg (show ¬ ((1 : Fin 2).val = 0) by decide)

variable (X : FVec Ideal S1x256x1024 .f32) (Wq : (⟨2, ![1024, 8192]⟩ : Shape).Idx → EReal)
  (Wo : (⟨2, ![8192, 1024]⟩ : Shape).Idx → EReal) (Wk Wv : (⟨2, ![1024, 2048]⟩ : Shape).Idx → EReal)

/-- Every device holds its blocks of the whole arrays. -/
def Shared : Prop := ∀ c : Dev nD,
  m ((c : Thread nD τ).loc main_arg0) = X ∧
  m ((c : Thread nD τ).loc main_arg1) = Layout.block ⟨2, ![1024, 1024]⟩ ⟨2, ![1024, 8192]⟩ 1 8 c Wq ∧
  m ((c : Thread nD τ).loc main_arg2) = Layout.block ⟨2, ![1024, 1024]⟩ ⟨2, ![8192, 1024]⟩ 0 8 c Wo ∧
  m ((c : Thread nD τ).loc main_arg3) = Wk ∧
  m ((c : Thread nD τ).loc main_arg4) = Wv

/-- Column `n` of block `c` is column `1024 c + n` of the whole, … -/
theorem cols_at (w : (⟨2, ![1024, 8192]⟩ : Shape).Idx → EReal) (c : Fin 8) (l n : Fin 1024) :
    Layout.block ⟨2, ![1024, 1024]⟩ ⟨2, ![1024, 8192]⟩ 1 8 c w (by decide) (ix2 l n) = w (ix2 l ⟨c.val * 1024 + n.val, by omega⟩) := by
  rw [Layout.block_apply]
  refine congrArg w (funext fun a => Fin.ext ?_)
  rw [Layout.Tiles.idx_val]
  fin_cases a <;> rfl

/-- … and likewise its rows. -/
theorem rows_at (w : (⟨2, ![8192, 1024]⟩ : Shape).Idx → EReal) (c : Fin 8) (l n : Fin 1024) :
    Layout.block ⟨2, ![1024, 1024]⟩ ⟨2, ![8192, 1024]⟩ 0 8 c w (by decide) (ix2 l n) = w (ix2 ⟨c.val * 1024 + l.val, by omega⟩ n) := by
  rw [Layout.block_apply]
  refine congrArg w (funext fun a => Fin.ext ?_)
  rw [Layout.Tiles.idx_val]
  fin_cases a <;> rfl

/-- Column `l` of a device's attention block is an entry of one head of the whole. -/
theorem attnV_at (hs : Shared m X Wq Wo Wk Wv) (c : Dev nD) (i : Fin 256) (l : Fin 1024) :
    attnV m ρ c (ix2 i l) = Attention.headOf X Wq Wk Wv
      ⟨(c.val * 1024 + l.val) / 128, by have : c.val < 8 := c.isLt; omega⟩ i ⟨(c.val * 1024 + l.val) % 128, by omega⟩ := by
  obtain ⟨h0, h1, h2, h3, h4⟩ := hs c
  have hc : c.val < 8 := c.isLt
  have e := attn_headOf X Wq Wk Wv c (wqstg m ρ c) (kvV m c 0) (kvV m c 1)
    (fun l n => by rw [wqstg_eq, h1]; exact cols_at Wq c l n)
    (fun l n => by rw [kvV_key, h3])
    (fun l n => by rw [kvV_value, h4])
    ⟨l.val / 128, by omega⟩ i ⟨l.val % 128, by omega⟩
  rw [attnV, xstg_eq, h0]
  have el : (⟨128 * (l.val / 128) + l.val % 128, by omega⟩ : Fin 1024) = l := Fin.ext (by dsimp only; omega)
  have eh : (⟨8 * c.val + l.val / 128, by omega⟩ : Fin 64) = ⟨(c.val * 1024 + l.val) / 128, by omega⟩ :=
    Fin.ext (by dsimp only; omega)
  have ed : (⟨l.val % 128, by omega⟩ : Fin 128) = ⟨(c.val * 1024 + l.val) % 128, by omega⟩ :=
    Fin.ext (by dsimp only; omega)
  dsimp only at e
  rw [el, eh, ed] at e
  exact e

/-- A device's part of an entry. -/
theorem part_at (hs : Shared m X Wq Wo Wk Wv) (c : Fin 8) (i : Fin 256) (n : Fin 1024) :
    part m ρ c i n = ∑ l : Fin 1024, Attention.headOf X Wq Wk Wv ⟨(c.val * 1024 + l.val) / 128, by omega⟩ i
      ⟨(c.val * 1024 + l.val) % 128, by omega⟩ * Wo (ix2 ⟨c.val * 1024 + l.val, by omega⟩ n) := by
  refine Finset.sum_congr rfl fun l _ => congrArg₂ (· * ·) (attnV_at m ρ X Wq Wo Wk Wv hs c i l) ?_
  refine (woV_at m ρ c l n).trans ?_
  rw [wostg_eq, (hs c).2.2.1]
  exact rows_at Wo c l n

/-- **Every device's result is the whole result.** -/
theorem out_entry (hs : Shared m X Wq Wo Wk Wv) (c : Dev nD) (i : Fin 256) (n : Fin 1024) :
    outF m ρ c (ix3 0 i n) = Attention.entry X Wq Wo Wk Wv i n := by
  rw [out_at, Attention.entry, Fin.sum_univ_tiles 8 1024 rfl]
  exact Finset.sum_congr rfl fun j _ => part_at m ρ X Wq Wo Wk Wv hs j i n

end Cert.Fused
-- ==== Proof.lean ====
/-
# The fused attention layer: all claims

The frames from the one run of the kernel at any float interpretation, and over the reals the equation of every device's
result with the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Dense
public import proofs.«01_k».proof.Proof.Whole

@[expose] public section

set_option maxRecDepth 16384

noncomputable section

namespace Cert.Proof

open Idealize.ShloMosaic Idealize.SL.Sem

section Frames
variable {F : FTy → Type} [FloatOps F]

/-- The five arguments end as they were and every semaphore is at zero, read off the run. -/
theorem unchanged (m : (ℓ : Loc Cert.KernelIdeal.nD Cert.KernelIdeal.τ Cert.KernelIdeal.sig) → Buf (Elt F) ℓ) (ρ : Dev Cert.KernelIdeal.nD → PrngReg)
    (s : MemSt Cert.KernelIdeal.nD Cert.KernelIdeal.τ Cert.KernelIdeal.sig (Elt F)) (h : Cert.Fused.Ended m ρ s) (c : Dev Cert.KernelIdeal.nD) :
    s.mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ s.mem ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ s.mem ((c.tc : Thread Cert.KernelIdeal.nD Cert.KernelIdeal.τ).loc Cert.KernelIdeal.main_arg2) = m ((c.tc : Thread Cert.KernelIdeal.nD Cert.KernelIdeal.τ).loc Cert.KernelIdeal.main_arg2)
    ∧ s.mem ((c.tc : Thread Cert.KernelIdeal.nD Cert.KernelIdeal.τ).loc Cert.KernelIdeal.main_arg3) = m ((c.tc : Thread Cert.KernelIdeal.nD Cert.KernelIdeal.τ).loc Cert.KernelIdeal.main_arg3)
    ∧ s.mem ((c.tc : Thread Cert.KernelIdeal.nD Cert.KernelIdeal.τ).loc Cert.KernelIdeal.main_arg4) = m ((c.tc : Thread Cert.KernelIdeal.nD Cert.KernelIdeal.τ).loc Cert.KernelIdeal.main_arg4) :=
  have f := Cert.Fused.final_in m ρ c
  ⟨((h c).1 (0 : Fin 4)).trans f.1, ((h c).1 (1 : Fin 4)).trans f.2.1, ((h c).1 (2 : Fin 4)).trans f.2.2, (h c).2⟩

/-- The frame, at any float interpretation. -/
theorem frame_any (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨unchanged m ρ _ h.1, h.2⟩) (Cert.Fused.run_main m ρ)

/-- The two programs have the same text: their tables of bodies are the same, -/
theorem same_bodies : Cert.Kernel.defs₀ (F := F) = Cert.KernelIdeal.defs₀ (F := F) := by
  unfold Cert.Kernel.defs₀ Cert.KernelIdeal.defs₀
  refine congrArg (Defs.onTc (Val := Elt F)) (funext fun l => funext fun x => ?_)
  match l, x with
  | 0, (t, s) => rfl
  | ⟨_ + 1, h⟩, _ => exact absurd h (Nat.not_lt.2 (Nat.le_add_left _ _))

/-- and so are the tables with the launch's regions. -/
theorem same_defs : Cert.Kernel.defs (F := F) = Cert.KernelIdeal.defs (F := F) :=
  congrArg (Pipeline.defs (Cert.Kernel.pcfgs (F := F))) same_bodies

end Frames

/-- The frame of the kernel over the reals. -/
theorem frame_kernelIdeal : Cert.quiescent_KernelIdeal := fun m ρ _ => frame_any (F := Ideal) m ρ

/-- The one run serves both programs. -/
theorem frame_kernel : Cert.quiescent_Kernel := fun m ρ _ => by
  have h := frame_any (F := Bits) m ρ
  rw [← same_defs] at h
  exact h

/-- The frame of the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Of the same arrays, the kernel's result on each device is the reference's. -/
theorem same_result (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ) (d : Dev Cert.ReferenceIdeal.nD)
    (h : Cert.Fused.Shared m (m' ((d.tc : Thread _ Cert.ReferenceIdeal.τ).loc Cert.ReferenceIdeal.main_arg0))
      (m' ((d.tc : Thread _ Cert.ReferenceIdeal.τ).loc Cert.ReferenceIdeal.main_arg1)) (m' ((d.tc : Thread _ Cert.ReferenceIdeal.τ).loc Cert.ReferenceIdeal.main_arg2))
      (m' ((d.tc : Thread _ Cert.ReferenceIdeal.τ).loc Cert.ReferenceIdeal.main_arg3)) (m' ((d.tc : Thread _ Cert.ReferenceIdeal.τ).loc Cert.ReferenceIdeal.main_arg4)))
    (c : Dev Cert.KernelIdeal.nD) :
    Cert.Fused.outF (F := Ideal) m ρ c = Cert.ReferenceIdeal.Value.res_out0 (F := Ideal) m' d := by
  rw [Cert.Dense.res_stages]
  funext j
  obtain ⟨i, n, rfl⟩ : ∃ (i : Fin 256) (n : Fin 1024), j = ix3 0 i n := by
    idx_vars j
    exact ⟨_, _, by rw [Subsingleton.elim j0 0]⟩
  exact (Cert.Fused.out_entry m ρ _ _ _ _ _ h c i n).trans (Cert.Dense.result_entry _ _ _ _ _ i n).symm

/-- Each device ends with the reference's result, up to the order of sums over the reals. -/
theorem equal : Cert.algebraic_KernelIdeal_ReferenceIdeal := by
  intro m ρ m' ρ' _ h
  refine ⟨Cert.ReferenceIdeal.Value.res_out0 (F := Ideal) m' 0, ?_, ?_⟩
  · exact (θ_run Cert.KernelIdeal.defs _ _).mono
      (fun r e c => ⟨((e.1 c).1 (3 : Fin 4)).trans ((Cert.Fused.finalA_eq m ρ c).trans (same_result m ρ m' 0 h c)),
        unchanged m ρ _ e.1 c⟩)
      (Cert.Fused.run_main (F := Ideal) m ρ)
  · exact (θ_run Cert.ReferenceIdeal.defs _ _).mono (fun _ e => e 0) (Cert.ReferenceIdeal.Value.run (F := Ideal) m' ρ')

/-- All the claims together. -/
theorem claim : Cert.Claim := ⟨Cert.Kernel.Gen.facts, Cert.KernelIdeal.Gen.facts, Cert.ReferenceIdeal.Gen.facts,
  frame_kernel, frame_kernelIdeal, frame_reference, trivial, equal⟩

end Cert.Proof

end
